-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![2, 4096, 512]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 128, 4, 64]⟩ ⟨4, ![2, 4096, 4, 64]⟩ 1 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 4, 64]⟩ ⟨4, ![2, 4096, 4, 64]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 128, 512]⟩ ⟨3, ![2, 4096, 512]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v33) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x128x512 : Shape := ⟨3, ![2, 128, 512]⟩
abbrev S512x256 : Shape := ⟨2, ![512, 256]⟩
abbrev S2x128x4x64 : Shape := ⟨4, ![2, 128, 4, 64]⟩
abbrev S256x512 : Shape := ⟨2, ![256, 512]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x128x4x64 : S_.BroadcastsInDim S2x128x4x64 (![] : Fin 0 → Fin S2x128x4x64.rank)
  reducesTo_S2x128x4x64_S_d0_1_2_3 : S2x128x4x64.ReducesTo [0, 1, 2, 3] S_

variable [Facts]

def fn {F : FTy → Type} [FloatOps F] (main_arg0 : FVec F S2x128x512 .f32) (main_arg1 : FVec F S512x256 .f32) (main_arg2 : FVec F S2x128x4x64 .f32) (main_arg3 : FVec F S2x128x4x64 .f32) (main_arg4 : FVec F S256x512 .f32) : IVec S_ 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x128x4x64 .f32 := Host.absf main_arg2
  let main_cst_2 : FVec F S_ .f32 := constant S_ .f32 0x7F800000#32
  let main_v10 : FVec F S2x128x4x64 .f32 := broadcastInDim S2x128x4x64 ![] bcast_S_S2x128x4x64 main_cst_2
  let main_v11 : IVec S2x128x4x64 1 := cmpf .olt main_v9 main_v10
  let main_c_3 : IVec S_ 1 := constantI S_ 1 1#1
  let main_v12 : IVec S_ 1 := (fun x v => Host.reduce IntOp.andi x v reducesTo_S2x128x4x64_S_d0_1_2_3 h_S_) main_v11 main_c_3
  let main_v13 : IVec S_ 1 := andi main_v8 main_v12
  main_v13
-- ==== Pre_finite_scores_ReferenceIdeal.lean ====
abbrev S2x4096x512 : Shape := ⟨3, ![2, 4096, 512]⟩
abbrev S512x256 : Shape := ⟨2, ![512, 256]⟩
abbrev S2x4096x4x64 : Shape := ⟨4, ![2, 4096, 4, 64]⟩
abbrev S256x512 : Shape := ⟨2, ![256, 512]⟩
abbrev S_ : Shape := ⟨0, ![]⟩

class Facts : Prop where
  bcast_S_S2x4096x512 : S_.BroadcastsInDim S2x4096x512 (![] : Fin 0 → Fin S2x4096x512.rank)
  reducesTo_S2x4096x512_S_d0_1_2 : S2x4096x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x4096x4x64 : S_.BroadcastsInDim S2x4096x4x64 (![] : Fin 0 → Fin S2x4096x4x64.rank)
  reducesTo_S2x4096x4x64_S_d0_1_2_3 : S2x4096x4x64.ReducesTo [0, 1, 2, 3] S_

variable [Facts]

def fn {F : FTy → Type} [FloatOps F] (main_arg0 : FVec F S2x4096x512 .f32) (main_arg1 : FVec F S512x256 .f32) (main_arg2 : FVec F S2x4096x4x64 .f32) (main_arg3 : FVec F S2x4096x4x64 .f32) (main_arg4 : FVec F S256x512 .f32) : IVec S_ 1 :=
  let main_v0 : FVec F S2x4096x512 .f32 := Host.absf main_arg0
  let main_cst : FVec F S_ .f32 := constant S_ .f32 0x7F800000#32
  let main_v1 : FVec F S2x4096x512 .f32 := broadcastInDim S2x4096x512 ![] bcast_S_S2x4096x512 main_cst
  let main_v2 : IVec S2x4096x512 1 := cmpf .olt main_v0 main_v1
  let main_c : IVec S_ 1 := constantI S_ 1 1#1
  let main_v3 : IVec S_ 1 := (fun x v => Host.reduce IntOp.andi x v reducesTo_S2x4096x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x4096x4x64 .f32 := Host.absf main_arg2
  let main_cst_2 : FVec F S_ .f32 := constant S_ .f32 0x7F800000#32
  let main_v10 : FVec F S2x4096x4x64 .f32 := broadcastInDim S2x4096x4x64 ![] bcast_S_S2x4096x4x64 main_cst_2
  let main_v11 : IVec S2x4096x4x64 1 := cmpf .olt main_v9 main_v10
  let main_c_3 : IVec S_ 1 := constantI S_ 1 1#1
  let main_v12 : IVec S_ 1 := (fun x v => Host.reduce IntOp.andi x v reducesTo_S2x4096x4x64_S_d0_1_2_3 h_S_) main_v11 main_c_3
  let main_v13 : IVec S_ 1 := andi main_v8 main_v12
  main_v13
-- ==== Kernel.lean ====
abbrev S2x128x512 : Shape := ⟨3, ![2, 128, 512]⟩
abbrev S512x256 : Shape := ⟨2, ![512, 256]⟩
abbrev S2x128x4x64 : Shape := ⟨4, ![2, 128, 4, 64]⟩
abbrev S256x512 : Shape := ⟨2, ![256, 512]⟩
abbrev S2x8x128x64 : Shape := ⟨4, ![2, 8, 128, 64]⟩
abbrev S31x2x8x128x64 : Shape := ⟨5, ![31, 2, 8, 128, 64]⟩
abbrev S8x128x64 : Shape := ⟨3, ![8, 128, 64]⟩
abbrev S8x128 : Shape := ⟨2, ![8, 128]⟩
abbrev S31 : Shape := ⟨1, ![31]⟩
abbrev S_ : Shape := ⟨0, ![]⟩
abbrev S2x4x128x64 : Shape := ⟨4, ![2, 4, 128, 64]⟩
abbrev S1x8x128x64 : Shape := ⟨4, ![1, 8, 128, 64]⟩
abbrev S1 : Shape := ⟨1, ![1]⟩
abbrev S1x2x8x128x64 : Shape := ⟨5, ![1, 2, 8, 128, 64]⟩
abbrev S256x256 : Shape := ⟨2, ![256, 256]⟩
abbrev S128x128 : Shape := ⟨2, ![128, 128]⟩
abbrev S1x128x128 : Shape := ⟨3, ![1, 128, 128]⟩
abbrev S8x128x128 : Shape := ⟨3, ![8, 128, 128]⟩
abbrev S1x1x8x128x64 : Shape := ⟨5, ![1, 1, 8, 128, 64]⟩
abbrev S8x128x1 : Shape := ⟨3, ![8, 128, 1]⟩

abbrev nBuf : Space → Nat
  | .hbm => 6
  | .vmem => 10
  | .smem => 0
  | _ => 0

abbrev bufTy : (tb : Table) → Fin (tcTables nBuf tb) → BufTy
  | .hbm, ⟨0, _⟩ => ⟨S2x128x512, .f32⟩
  | .hbm, ⟨1, _⟩ => ⟨S512x256, .f32⟩
  | .hbm, ⟨2, _⟩ => ⟨S2x128x4x64, .f32⟩
  | .hbm, ⟨3, _⟩ => ⟨S2x128x4x64, .f32⟩
  | .hbm, ⟨4, _⟩ => ⟨S256x512, .f32⟩
  | .hbm, ⟨5, _⟩ => ⟨S2x128x512, .f32⟩
  | .local _ .vmem, ⟨0, _⟩ => ⟨S2x128x512, .f32⟩
  | .local _ .vmem, ⟨1, _⟩ => ⟨S512x256, .f32⟩
  | .local _ .vmem, ⟨2, _⟩ => ⟨S2x128x4x64, .f32⟩
  | .local _ .vmem, ⟨3, _⟩ => ⟨S2x128x4x64, .f32⟩
  | .local _ .vmem, ⟨4, _⟩ => ⟨S256x512, .f32⟩
  | .local _ .vmem, ⟨5, _⟩ => ⟨S2x128x512, .f32⟩
  | .local _ .vmem, ⟨6, _⟩ => ⟨S2x8x128x64, .bf16⟩
  | .local _ .vmem, ⟨7, _⟩ => ⟨S31x2x8x128x64, .bf16⟩
  | .local _ .vmem, ⟨8, _⟩ => ⟨S8x128x64, .f32⟩
  | .local _ .vmem, ⟨9, _⟩ => ⟨S8x128, .f32⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 1 68 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_407 : BitVec 32 := 0#32
  let c0_i32_405 : BitVec 32 := 0#32
  let c1_i32_406 : BitVec 32 := 1#32
  let v706 : BitVec 32 := Scalar.muli c0_i32_405 c1_i32_406
  let v707 : BitVec 32 := Scalar.addi c0_i32_407 v706
  v707.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_407 : BitVec 32 := 0#32
  let c1_i32_405 : BitVec 32 := 1#32
  let c1_i32_406 : BitVec 32 := 1#32
  let v706 : BitVec 32 := Scalar.muli c1_i32_405 c1_i32_406
  let v707 : BitVec 32 := Scalar.addi c0_i32_407 v706
  v707.toNat
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_407 : BitVec 32 := 0#32
  let c2_i32_405 : BitVec 32 := 2#32
  let c1_i32_406 : BitVec 32 := 1#32
  let v706 : BitVec 32 := Scalar.muli c2_i32_405 c1_i32_406
  let v707 : BitVec 32 := Scalar.addi c0_i32_407 v706
  v707.toNat
def k0_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_407 : BitVec 32 := 0#32
  let c3_i32_405 : BitVec 32 := 3#32
  let c1_i32_406 : BitVec 32 := 1#32
  let v706 : BitVec 32 := Scalar.muli c3_i32_405 c1_i32_406
  let v707 : BitVec 32 := Scalar.addi c0_i32_407 v706
  v707.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 1 := Scalar.cmpi .ne v2 c4_i32
  let v17 : BitVec 32 := Scalar.extui v16
  let c0_i32_5 : BitVec 32 := 0#32
  let v18 : BitVec 1 := Scalar.cmpi .ne v17 c0_i32_5
  v18

def k0_dev5 : Nat :=
  let c0_i32_407 : BitVec 32 := 0#32
  let c4_i32_405 : BitVec 32 := 4#32
  let c1_i32_406 : BitVec 32 := 1#32
  let v706 : BitVec 32 := Scalar.muli c4_i32_405 c1_i32_406
  let v707 : BitVec 32 := Scalar.addi c0_i32_407 v706
  v707.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v19 : BitVec 1 := Scalar.cmpi .ne v2 c5_i32
  let v20 : BitVec 32 := Scalar.extui v19
  let c0_i32_6 : BitVec 32 := 0#32
  let v21 : BitVec 1 := Scalar.cmpi .ne v20 c0_i32_6
  v21

def k0_dev6 : Nat :=
  let c0_i32_407 : BitVec 32 := 0#32
  let c5_i32_405 : BitVec 32 := 5#32
  let c1_i32_406 : BitVec 32 := 1#32
  let v706 : BitVec 32 := Scalar.muli c5_i32_405 c1_i32_406
  let v707 : BitVec 32 := Scalar.addi c0_i32_407 v706
  v707.toNat
def k0_cond7 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v22 : BitVec 1 := Scalar.cmpi .ne v2 c6_i32
  let v23 : BitVec 32 := Scalar.extui v22
  let c0_i32_7 : BitVec 32 := 0#32
  let v24 : BitVec 1 := Scalar.cmpi .ne v23 c0_i32_7
  v24

def k0_dev7 : Nat :=
  let c0_i32_407 : BitVec 32 := 0#32
  let c6_i32_405 : BitVec 32 := 6#32
  let c1_i32_406 : BitVec 32 := 1#32
  let v706 : BitVec 32 := Scalar.muli c6_i32_405 c1_i32_406
  let v707 : BitVec 32 := Scalar.addi c0_i32_407 v706
  v707.toNat
def k0_cond8 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v25 : BitVec 1 := Scalar.cmpi .ne v2 c7_i32
  let v26 : BitVec 32 := Scalar.extui v25
  let c0_i32_8 : BitVec 32 := 0#32
  let v27 : BitVec 1 := Scalar.cmpi .ne v26 c0_i32_8
  v27

def k0_dev8 : Nat :=
  let c0_i32_407 : BitVec 32 := 0#32
  let c7_i32_405 : BitVec 32 := 7#32
  let c1_i32_406 : BitVec 32 := 1#32
  let v706 : BitVec 32 := Scalar.muli c7_i32_405 c1_i32_406
  let v707 : BitVec 32 := Scalar.addi c0_i32_407 v706
  v707.toNat
def k0_cond9 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v28 : BitVec 1 := Scalar.cmpi .ne v2 c8_i32
  let v29 : BitVec 32 := Scalar.extui v28
  let c0_i32_9 : BitVec 32 := 0#32
  let v30 : BitVec 1 := Scalar.cmpi .ne v29 c0_i32_9
  v30

def k0_dev9 : Nat :=
  let c0_i32_407 : BitVec 32 := 0#32
  let c8_i32_405 : BitVec 32 := 8#32
  let c1_i32_406 : BitVec 32 := 1#32
  let v706 : BitVec 32 := Scalar.muli c8_i32_405 c1_i32_406
  let v707 : BitVec 32 := Scalar.addi c0_i32_407 v706
  v707.toNat
def k0_cond10 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v31 : BitVec 1 := Scalar.cmpi .ne v2 c9_i32
  let v32 : BitVec 32 := Scalar.extui v31
  let c0_i32_10 : BitVec 32 := 0#32
  let v33 : BitVec 1 := Scalar.cmpi .ne v32 c0_i32_10
  v33

def k0_dev10 : Nat :=
  let c0_i32_407 : BitVec 32 := 0#32
  let c9_i32_405 : BitVec 32 := 9#32
  let c1_i32_406 : BitVec 32 := 1#32
  let v706 : BitVec 32 := Scalar.muli c9_i32_405 c1_i32_406
  let v707 : BitVec 32 := Scalar.addi c0_i32_407 v706
  v707.toNat
def k0_cond11 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v34 : BitVec 1 := Scalar.cmpi .ne v2 c10_i32
  let v35 : BitVec 32 := Scalar.extui v34
  let c0_i32_11 : BitVec 32 := 0#32
  let v36 : BitVec 1 := Scalar.cmpi .ne v35 c0_i32_11
  v36

def k0_dev11 : Nat :=
  let c0_i32_407 : BitVec 32 := 0#32
  let c10_i32_405 : BitVec 32 := 10#32
  let c1_i32_406 : BitVec 32 := 1#32
  let v706 : BitVec 32 := Scalar.muli c10_i32_405 c1_i32_406
  let v707 : BitVec 32 := Scalar.addi c0_i32_407 v706
  v707.toNat
def k0_cond12 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v37 : BitVec 1 := Scalar.cmpi .ne v2 c11_i32
  let v38 : BitVec 32 := Scalar.extui v37
  let c0_i32_12 : BitVec 32 := 0#32
  let v39 : BitVec 1 := Scalar.cmpi .ne v38 c0_i32_12
  v39

def k0_dev12 : Nat :=
  let c0_i32_407 : BitVec 32 := 0#32
  let c11_i32_405 : BitVec 32 := 11#32
  let c1_i32_406 : BitVec 32 := 1#32
  let v706 : BitVec 32 := Scalar.muli c11_i32_405 c1_i32_406
  let v707 : BitVec 32 := Scalar.addi c0_i32_407 v706
  v707.toNat
def k0_cond13 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v40 : BitVec 1 := Scalar.cmpi .ne v2 c12_i32
  let v41 : BitVec 32 := Scalar.extui v40
  let c0_i32_13 : BitVec 32 := 0#32
  let v42 : BitVec 1 := Scalar.cmpi .ne v41 c0_i32_13
  v42

def k0_dev13 : Nat :=
  let c0_i32_407 : BitVec 32 := 0#32
  let c12_i32_405 : BitVec 32 := 12#32
  let c1_i32_406 : BitVec 32 := 1#32
  let v706 : BitVec 32 := Scalar.muli c12_i32_405 c1_i32_406
  let v707 : BitVec 32 := Scalar.addi c0_i32_407 v706
  v707.toNat
def k0_cond14 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v43 : BitVec 1 := Scalar.cmpi .ne v2 c13_i32
  let v44 : BitVec 32 := Scalar.extui v43
  let c0_i32_14 : BitVec 32 := 0#32
  let v45 : BitVec 1 := Scalar.cmpi .ne v44 c0_i32_14
  v45

def k0_dev14 : Nat :=
  let c0_i32_407 : BitVec 32 := 0#32
  let c13_i32_405 : BitVec 32 := 13#32
  let c1_i32_406 : BitVec 32 := 1#32
  let v706 : BitVec 32 := Scalar.muli c13_i32_405 c1_i32_406
  let v707 : BitVec 32 := Scalar.addi c0_i32_407 v706
  v707.toNat
def k0_cond15 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v46 : BitVec 1 := Scalar.cmpi .ne v2 c14_i32
  let v47 : BitVec 32 := Scalar.extui v46
  let c0_i32_15 : BitVec 32 := 0#32
  let v48 : BitVec 1 := Scalar.cmpi .ne v47 c0_i32_15
  v48

def k0_dev15 : Nat :=
  let c0_i32_407 : BitVec 32 := 0#32
  let c14_i32_405 : BitVec 32 := 14#32
  let c1_i32_406 : BitVec 32 := 1#32
  let v706 : BitVec 32 := Scalar.muli c14_i32_405 c1_i32_406
  let v707 : BitVec 32 := Scalar.addi c0_i32_407 v706
  v707.toNat
def k0_cond16 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v49 : BitVec 1 := Scalar.cmpi .ne v2 c15_i32
  let v50 : BitVec 32 := Scalar.extui v49
  let c0_i32_16 : BitVec 32 := 0#32
  let v51 : BitVec 1 := Scalar.cmpi .ne v50 c0_i32_16
  v51

def k0_dev16 : Nat :=
  let c0_i32_407 : BitVec 32 := 0#32
  let c15_i32_405 : BitVec 32 := 15#32
  let c1_i32_406 : BitVec 32 := 1#32
  let v706 : BitVec 32 := Scalar.muli c15_i32_405 c1_i32_406
  let v707 : BitVec 32 := Scalar.addi c0_i32_407 v706
  v707.toNat
def k0_cond17 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v52 : BitVec 1 := Scalar.cmpi .ne v2 c16_i32
  let v53 : BitVec 32 := Scalar.extui v52
  let c0_i32_17 : BitVec 32 := 0#32
  let v54 : BitVec 1 := Scalar.cmpi .ne v53 c0_i32_17
  v54

def k0_dev17 : Nat :=
  let c0_i32_407 : BitVec 32 := 0#32
  let c16_i32_405 : BitVec 32 := 16#32
  let c1_i32_406 : BitVec 32 := 1#32
  let v706 : BitVec 32 := Scalar.muli c16_i32_405 c1_i32_406
  let v707 : BitVec 32 := Scalar.addi c0_i32_407 v706
  v707.toNat
def k0_cond18 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v55 : BitVec 1 := Scalar.cmpi .ne v2 c17_i32
  let v56 : BitVec 32 := Scalar.extui v55
  let c0_i32_18 : BitVec 32 := 0#32
  let v57 : BitVec 1 := Scalar.cmpi .ne v56 c0_i32_18
  v57

def k0_dev18 : Nat :=
  let c0_i32_407 : BitVec 32 := 0#32
  let c17_i32_405 : BitVec 32 := 17#32
  let c1_i32_406 : BitVec 32 := 1#32
  let v706 : BitVec 32 := Scalar.muli c17_i32_405 c1_i32_406
  let v707 : BitVec 32 := Scalar.addi c0_i32_407 v706
  v707.toNat
def k0_cond19 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v58 : BitVec 1 := Scalar.cmpi .ne v2 c18_i32
  let v59 : BitVec 32 := Scalar.extui v58
  let c0_i32_19 : BitVec 32 := 0#32
  let v60 : BitVec 1 := Scalar.cmpi .ne v59 c0_i32_19
  v60

def k0_dev19 : Nat :=
  let c0_i32_407 : BitVec 32 := 0#32
  let c18_i32_405 : BitVec 32 := 18#32
  let c1_i32_406 : BitVec 32 := 1#32
  let v706 : BitVec 32 := Scalar.muli c18_i32_405 c1_i32_406
  let v707 : BitVec 32 := Scalar.addi c0_i32_407 v706
  v707.toNat
def k0_cond20 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v61 : BitVec 1 := Scalar.cmpi .ne v2 c19_i32
  let v62 : BitVec 32 := Scalar.extui v61
  let c0_i32_20 : BitVec 32 := 0#32
  let v63 : BitVec 1 := Scalar.cmpi .ne v62 c0_i32_20
  v63

def k0_dev20 : Nat :=
  let c0_i32_407 : BitVec 32 := 0#32
  let c19_i32_405 : BitVec 32 := 19#32
  let c1_i32_406 : BitVec 32 := 1#32
  let v706 : BitVec 32 := Scalar.muli c19_i32_405 c1_i32_406
  let v707 : BitVec 32 := Scalar.addi c0_i32_407 v706
  v707.toNat
def k0_cond21 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v64 : BitVec 1 := Scalar.cmpi .ne v2 c20_i32
  let v65 : BitVec 32 := Scalar.extui v64
  let c0_i32_21 : BitVec 32 := 0#32
  let v66 : BitVec 1 := Scalar.cmpi .ne v65 c0_i32_21
  v66

def k0_dev21 : Nat :=
  let c0_i32_407 : BitVec 32 := 0#32
  let c20_i32_405 : BitVec 32 := 20#32
  let c1_i32_406 : BitVec 32 := 1#32
  let v706 : BitVec 32 := Scalar.muli c20_i32_405 c1_i32_406
  let v707 : BitVec 32 := Scalar.addi c0_i32_407 v706
  v707.toNat
def k0_cond22 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v67 : BitVec 1 := Scalar.cmpi .ne v2 c21_i32
  let v68 : BitVec 32 := Scalar.extui v67
  let c0_i32_22 : BitVec 32 := 0#32
  let v69 : BitVec 1 := Scalar.cmpi .ne v68 c0_i32_22
  v69

def k0_dev22 : Nat :=
  let c0_i32_407 : BitVec 32 := 0#32
  let c21_i32_405 : BitVec 32 := 21#32
  let c1_i32_406 : BitVec 32 := 1#32
  let v706 : BitVec 32 := Scalar.muli c21_i32_405 c1_i32_406
  let v707 : BitVec 32 := Scalar.addi c0_i32_407 v706
  v707.toNat
def k0_cond23 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v70 : BitVec 1 := Scalar.cmpi .ne v2 c22_i32
  let v71 : BitVec 32 := Scalar.extui v70
  let c0_i32_23 : BitVec 32 := 0#32
  let v72 : BitVec 1 := Scalar.cmpi .ne v71 c0_i32_23
  v72

def k0_dev23 : Nat :=
  let c0_i32_407 : BitVec 32 := 0#32
  let c22_i32_405 : BitVec 32 := 22#32
  let c1_i32_406 : BitVec 32 := 1#32
  let v706 : BitVec 32 := Scalar.muli c22_i32_405 c1_i32_406
  let v707 : BitVec 32 := Scalar.addi c0_i32_407 v706
  v707.toNat
def k0_cond24 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v73 : BitVec 1 := Scalar.cmpi .ne v2 c23_i32
  let v74 : BitVec 32 := Scalar.extui v73
  let c0_i32_24 : BitVec 32 := 0#32
  let v75 : BitVec 1 := Scalar.cmpi .ne v74 c0_i32_24
  v75

def k0_dev24 : Nat :=
  let c0_i32_407 : BitVec 32 := 0#32
  let c23_i32_405 : BitVec 32 := 23#32
  let c1_i32_406 : BitVec 32 := 1#32
  let v706 : BitVec 32 := Scalar.muli c23_i32_405 c1_i32_406
  let v707 : BitVec 32 := Scalar.addi c0_i32_407 v706
  v707.toNat
def k0_cond25 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v76 : BitVec 1 := Scalar.cmpi .ne v2 c24_i32
  let v77 : BitVec 32 := Scalar.extui v76
  let c0_i32_25 : BitVec 32 := 0#32
  let v78 : BitVec 1 := Scalar.cmpi .ne v77 c0_i32_25
  v78

def k0_dev25 : Nat :=
  let c0_i32_407 : BitVec 32 := 0#32
  let c24_i32_405 : BitVec 32 := 24#32
  let c1_i32_406 : BitVec 32 := 1#32
  let v706 : BitVec 32 := Scalar.muli c24_i32_405 c1_i32_406
  let v707 : BitVec 32 := Scalar.addi c0_i32_407 v706
  v707.toNat
def k0_cond26 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v79 : BitVec 1 := Scalar.cmpi .ne v2 c25_i32
  let v80 : BitVec 32 := Scalar.extui v79
  let c0_i32_26 : BitVec 32 := 0#32
  let v81 : BitVec 1 := Scalar.cmpi .ne v80 c0_i32_26
  v81

def k0_dev26 : Nat :=
  let c0_i32_407 : BitVec 32 := 0#32
  let c25_i32_405 : BitVec 32 := 25#32
  let c1_i32_406 : BitVec 32 := 1#32
  let v706 : BitVec 32 := Scalar.muli c25_i32_405 c1_i32_406
  let v707 : BitVec 32 := Scalar.addi c0_i32_407 v706
  v707.toNat
def k0_cond27 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v82 : BitVec 1 := Scalar.cmpi .ne v2 c26_i32
  let v83 : BitVec 32 := Scalar.extui v82
  let c0_i32_27 : BitVec 32 := 0#32
  let v84 : BitVec 1 := Scalar.cmpi .ne v83 c0_i32_27
  v84

def k0_dev27 : Nat :=
  let c0_i32_407 : BitVec 32 := 0#32
  let c26_i32_405 : BitVec 32 := 26#32
  let c1_i32_406 : BitVec 32 := 1#32
  let v706 : BitVec 32 := Scalar.muli c26_i32_405 c1_i32_406
  let v707 : BitVec 32 := Scalar.addi c0_i32_407 v706
  v707.toNat
def k0_cond28 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v85 : BitVec 1 := Scalar.cmpi .ne v2 c27_i32
  let v86 : BitVec 32 := Scalar.extui v85
  let c0_i32_28 : BitVec 32 := 0#32
  let v87 : BitVec 1 := Scalar.cmpi .ne v86 c0_i32_28
  v87

def k0_dev28 : Nat :=
  let c0_i32_407 : BitVec 32 := 0#32
  let c27_i32_405 : BitVec 32 := 27#32
  let c1_i32_406 : BitVec 32 := 1#32
  let v706 : BitVec 32 := Scalar.muli c27_i32_405 c1_i32_406
  let v707 : BitVec 32 := Scalar.addi c0_i32_407 v706
  v707.toNat
def k0_cond29 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v88 : BitVec 1 := Scalar.cmpi .ne v2 c28_i32
  let v89 : BitVec 32 := Scalar.extui v88
  let c0_i32_29 : BitVec 32 := 0#32
  let v90 : BitVec 1 := Scalar.cmpi .ne v89 c0_i32_29
  v90

def k0_dev29 : Nat :=
  let c0_i32_407 : BitVec 32 := 0#32
  let c28_i32_405 : BitVec 32 := 28#32
  let c1_i32_406 : BitVec 32 := 1#32
  let v706 : BitVec 32 := Scalar.muli c28_i32_405 c1_i32_406
  let v707 : BitVec 32 := Scalar.addi c0_i32_407 v706
  v707.toNat
def k0_cond30 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v91 : BitVec 1 := Scalar.cmpi .ne v2 c29_i32
  let v92 : BitVec 32 := Scalar.extui v91
  let c0_i32_30 : BitVec 32 := 0#32
  let v93 : BitVec 1 := Scalar.cmpi .ne v92 c0_i32_30
  v93

def k0_dev30 : Nat :=
  let c0_i32_407 : BitVec 32 := 0#32
  let c29_i32_405 : BitVec 32 := 29#32
  let c1_i32_406 : BitVec 32 := 1#32
  let v706 : BitVec 32 := Scalar.muli c29_i32_405 c1_i32_406
  let v707 : BitVec 32 := Scalar.addi c0_i32_407 v706
  v707.toNat
def k0_cond31 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v94 : BitVec 1 := Scalar.cmpi .ne v2 c30_i32
  let v95 : BitVec 32 := Scalar.extui v94
  let c0_i32_31 : BitVec 32 := 0#32
  let v96 : BitVec 1 := Scalar.cmpi .ne v95 c0_i32_31
  v96

def k0_dev31 : Nat :=
  let c0_i32_407 : BitVec 32 := 0#32
  let c30_i32_405 : BitVec 32 := 30#32
  let c1_i32_406 : BitVec 32 := 1#32
  let v706 : BitVec 32 := Scalar.muli c30_i32_405 c1_i32_406
  let v707 : BitVec 32 := Scalar.addi c0_i32_407 v706
  v707.toNat
def k0_cond32 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v97 : BitVec 1 := Scalar.cmpi .ne v2 c31_i32
  let v98 : BitVec 32 := Scalar.extui v97
  let c0_i32_32 : BitVec 32 := 0#32
  let v99 : BitVec 1 := Scalar.cmpi .ne v98 c0_i32_32
  v99

def k0_dev32 : Nat :=
  let c0_i32_407 : BitVec 32 := 0#32
  let c31_i32_405 : BitVec 32 := 31#32
  let c1_i32_406 : BitVec 32 := 1#32
  let v706 : BitVec 32 := Scalar.muli c31_i32_405 c1_i32_406
  let v707 : BitVec 32 := Scalar.addi c0_i32_407 v706
  v707.toNat
def k0_cond33 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_48 : BitVec 32 := 30#32
  let v116 : BitVec 1 := Scalar.cmpi .sle v2 c30_i32_48
  let v117 : BitVec 32 := Scalar.extui v116
  let c0_i32_49 : BitVec 32 := 0#32
  let v118 : BitVec 1 := Scalar.cmpi .ne v117 c0_i32_49
  v118

def k0_dev33 (d0 : Dev nD) : Nat :=
  let c0_i32_409 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_404 : BitVec 32 := 1#32
  let v706 : BitVec 32 := Scalar.addi v2 c1_i32_404
  let c1_i32_408 : BitVec 32 := 1#32
  let v707 : BitVec 32 := Scalar.muli v706 c1_i32_408
  let v708 : BitVec 32 := Scalar.addi c0_i32_409 v707
  v708.toNat
def k0_cond35 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_88 : BitVec 32 := 1#32
  let v205 : BitVec 1 := Scalar.cmpi .sge v2 c1_i32_88
  let c30_i32_89 : BitVec 32 := 30#32
  let v206 : BitVec 1 := Scalar.cmpi .sle v2 c30_i32_89
  let v207 : BitVec 1 := Scalar.andi v205 v206
  let v208 : BitVec 32 := Scalar.extui v207
  let c0_i32_90 : BitVec 32 := 0#32
  let v209 : BitVec 1 := Scalar.cmpi .ne v208 c0_i32_90
  v209

def k0_dev34 (d0 : Dev nD) : Nat :=
  let c0_i32_410 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_404 : BitVec 32 := 1#32
  let v706 : BitVec 32 := Scalar.addi v2 c1_i32_404
  let c1_i32_409 : BitVec 32 := 1#32
  let v707 : BitVec 32 := Scalar.muli v706 c1_i32_409
  let v708 : BitVec 32 := Scalar.addi c0_i32_410 v707
  v708.toNat
def k0_cond38 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_95 : BitVec 32 := 2#32
  let v216 : BitVec 1 := Scalar.cmpi .sge v2 c2_i32_95
  let c30_i32_96 : BitVec 32 := 30#32
  let v217 : BitVec 1 := Scalar.cmpi .sle v2 c30_i32_96
  let v218 : BitVec 1 := Scalar.andi v216 v217
  let v219 : BitVec 32 := Scalar.extui v218
  let c0_i32_97 : BitVec 32 := 0#32
  let v220 : BitVec 1 := Scalar.cmpi .ne v219 c0_i32_97
  v220

def k0_dev35 (d0 : Dev nD) : Nat :=
  let c0_i32_410 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_404 : BitVec 32 := 1#32
  let v706 : BitVec 32 := Scalar.addi v2 c1_i32_404
  let c1_i32_409 : BitVec 32 := 1#32
  let v707 : BitVec 32 := Scalar.muli v706 c1_i32_409
  let v708 : BitVec 32 := Scalar.addi c0_i32_410 v707
  v708.toNat
def k0_cond41 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_102 : BitVec 32 := 3#32
  let v227 : BitVec 1 := Scalar.cmpi .sge v2 c3_i32_102
  let c30_i32_103 : BitVec 32 := 30#32
  let v228 : BitVec 1 := Scalar.cmpi .sle v2 c30_i32_103
  let v229 : BitVec 1 := Scalar.andi v227 v228
  let v230 : BitVec 32 := Scalar.extui v229
  let c0_i32_104 : BitVec 32 := 0#32
  let v231 : BitVec 1 := Scalar.cmpi .ne v230 c0_i32_104
  v231

def k0_dev36 (d0 : Dev nD) : Nat :=
  let c0_i32_410 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_404 : BitVec 32 := 1#32
  let v706 : BitVec 32 := Scalar.addi v2 c1_i32_404
  let c1_i32_409 : BitVec 32 := 1#32
  let v707 : BitVec 32 := Scalar.muli v706 c1_i32_409
  let v708 : BitVec 32 := Scalar.addi c0_i32_410 v707
  v708.toNat
def k0_cond44 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_109 : BitVec 32 := 4#32
  let v238 : BitVec 1 := Scalar.cmpi .sge v2 c4_i32_109
  let c30_i32_110 : BitVec 32 := 30#32
  let v239 : BitVec 1 := Scalar.cmpi .sle v2 c30_i32_110
  let v240 : BitVec 1 := Scalar.andi v238 v239
  let v241 : BitVec 32 := Scalar.extui v240
  let c0_i32_111 : BitVec 32 := 0#32
  let v242 : BitVec 1 := Scalar.cmpi .ne v241 c0_i32_111
  v242

def k0_dev37 (d0 : Dev nD) : Nat :=
  let c0_i32_410 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_404 : BitVec 32 := 1#32
  let v706 : BitVec 32 := Scalar.addi v2 c1_i32_404
  let c1_i32_409 : BitVec 32 := 1#32
  let v707 : BitVec 32 := Scalar.muli v706 c1_i32_409
  let v708 : BitVec 32 := Scalar.addi c0_i32_410 v707
  v708.toNat
def k0_cond47 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_116 : BitVec 32 := 5#32
  let v249 : BitVec 1 := Scalar.cmpi .sge v2 c5_i32_116
  let c30_i32_117 : BitVec 32 := 30#32
  let v250 : BitVec 1 := Scalar.cmpi .sle v2 c30_i32_117
  let v251 : BitVec 1 := Scalar.andi v249 v250
  let v252 : BitVec 32 := Scalar.extui v251
  let c0_i32_118 : BitVec 32 := 0#32
  let v253 : BitVec 1 := Scalar.cmpi .ne v252 c0_i32_118
  v253

def k0_dev38 (d0 : Dev nD) : Nat :=
  let c0_i32_410 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_404 : BitVec 32 := 1#32
  let v706 : BitVec 32 := Scalar.addi v2 c1_i32_404
  let c1_i32_409 : BitVec 32 := 1#32
  let v707 : BitVec 32 := Scalar.muli v706 c1_i32_409
  let v708 : BitVec 32 := Scalar.addi c0_i32_410 v707
  v708.toNat
def k0_cond50 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_123 : BitVec 32 := 6#32
  let v260 : BitVec 1 := Scalar.cmpi .sge v2 c6_i32_123
  let c30_i32_124 : BitVec 32 := 30#32
  let v261 : BitVec 1 := Scalar.cmpi .sle v2 c30_i32_124
  let v262 : BitVec 1 := Scalar.andi v260 v261
  let v263 : BitVec 32 := Scalar.extui v262
  let c0_i32_125 : BitVec 32 := 0#32
  let v264 : BitVec 1 := Scalar.cmpi .ne v263 c0_i32_125
  v264

def k0_dev39 (d0 : Dev nD) : Nat :=
  let c0_i32_410 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_404 : BitVec 32 := 1#32
  let v706 : BitVec 32 := Scalar.addi v2 c1_i32_404
  let c1_i32_409 : BitVec 32 := 1#32
  let v707 : BitVec 32 := Scalar.muli v706 c1_i32_409
  let v708 : BitVec 32 := Scalar.addi c0_i32_410 v707
  v708.toNat
def k0_cond53 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_130 : BitVec 32 := 7#32
  let v271 : BitVec 1 := Scalar.cmpi .sge v2 c7_i32_130
  let c30_i32_131 : BitVec 32 := 30#32
  let v272 : BitVec 1 := Scalar.cmpi .sle v2 c30_i32_131
  let v273 : BitVec 1 := Scalar.andi v271 v272
  let v274 : BitVec 32 := Scalar.extui v273
  let c0_i32_132 : BitVec 32 := 0#32
  let v275 : BitVec 1 := Scalar.cmpi .ne v274 c0_i32_132
  v275

def k0_dev40 (d0 : Dev nD) : Nat :=
  let c0_i32_410 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_404 : BitVec 32 := 1#32
  let v706 : BitVec 32 := Scalar.addi v2 c1_i32_404
  let c1_i32_409 : BitVec 32 := 1#32
  let v707 : BitVec 32 := Scalar.muli v706 c1_i32_409
  let v708 : BitVec 32 := Scalar.addi c0_i32_410 v707
  v708.toNat
def k0_cond56 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_137 : BitVec 32 := 8#32
  let v282 : BitVec 1 := Scalar.cmpi .sge v2 c8_i32_137
  let c30_i32_138 : BitVec 32 := 30#32
  let v283 : BitVec 1 := Scalar.cmpi .sle v2 c30_i32_138
  let v284 : BitVec 1 := Scalar.andi v282 v283
  let v285 : BitVec 32 := Scalar.extui v284
  let c0_i32_139 : BitVec 32 := 0#32
  let v286 : BitVec 1 := Scalar.cmpi .ne v285 c0_i32_139
  v286

def k0_dev41 (d0 : Dev nD) : Nat :=
  let c0_i32_410 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_404 : BitVec 32 := 1#32
  let v706 : BitVec 32 := Scalar.addi v2 c1_i32_404
  let c1_i32_409 : BitVec 32 := 1#32
  let v707 : BitVec 32 := Scalar.muli v706 c1_i32_409
  let v708 : BitVec 32 := Scalar.addi c0_i32_410 v707
  v708.toNat
def k0_cond59 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_144 : BitVec 32 := 9#32
  let v293 : BitVec 1 := Scalar.cmpi .sge v2 c9_i32_144
  let c30_i32_145 : BitVec 32 := 30#32
  let v294 : BitVec 1 := Scalar.cmpi .sle v2 c30_i32_145
  let v295 : BitVec 1 := Scalar.andi v293 v294
  let v296 : BitVec 32 := Scalar.extui v295
  let c0_i32_146 : BitVec 32 := 0#32
  let v297 : BitVec 1 := Scalar.cmpi .ne v296 c0_i32_146
  v297

def k0_dev42 (d0 : Dev nD) : Nat :=
  let c0_i32_410 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_404 : BitVec 32 := 1#32
  let v706 : BitVec 32 := Scalar.addi v2 c1_i32_404
  let c1_i32_409 : BitVec 32 := 1#32
  let v707 : BitVec 32 := Scalar.muli v706 c1_i32_409
  let v708 : BitVec 32 := Scalar.addi c0_i32_410 v707
  v708.toNat
def k0_cond62 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_151 : BitVec 32 := 10#32
  let v304 : BitVec 1 := Scalar.cmpi .sge v2 c10_i32_151
  let c30_i32_152 : BitVec 32 := 30#32
  let v305 : BitVec 1 := Scalar.cmpi .sle v2 c30_i32_152
  let v306 : BitVec 1 := Scalar.andi v304 v305
  let v307 : BitVec 32 := Scalar.extui v306
  let c0_i32_153 : BitVec 32 := 0#32
  let v308 : BitVec 1 := Scalar.cmpi .ne v307 c0_i32_153
  v308

def k0_dev43 (d0 : Dev nD) : Nat :=
  let c0_i32_410 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_404 : BitVec 32 := 1#32
  let v706 : BitVec 32 := Scalar.addi v2 c1_i32_404
  let c1_i32_409 : BitVec 32 := 1#32
  let v707 : BitVec 32 := Scalar.muli v706 c1_i32_409
  let v708 : BitVec 32 := Scalar.addi c0_i32_410 v707
  v708.toNat
def k0_cond65 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_158 : BitVec 32 := 11#32
  let v315 : BitVec 1 := Scalar.cmpi .sge v2 c11_i32_158
  let c30_i32_159 : BitVec 32 := 30#32
  let v316 : BitVec 1 := Scalar.cmpi .sle v2 c30_i32_159
  let v317 : BitVec 1 := Scalar.andi v315 v316
  let v318 : BitVec 32 := Scalar.extui v317
  let c0_i32_160 : BitVec 32 := 0#32
  let v319 : BitVec 1 := Scalar.cmpi .ne v318 c0_i32_160
  v319

def k0_dev44 (d0 : Dev nD) : Nat :=
  let c0_i32_410 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_404 : BitVec 32 := 1#32
  let v706 : BitVec 32 := Scalar.addi v2 c1_i32_404
  let c1_i32_409 : BitVec 32 := 1#32
  let v707 : BitVec 32 := Scalar.muli v706 c1_i32_409
  let v708 : BitVec 32 := Scalar.addi c0_i32_410 v707
  v708.toNat
def k0_cond68 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_165 : BitVec 32 := 12#32
  let v326 : BitVec 1 := Scalar.cmpi .sge v2 c12_i32_165
  let c30_i32_166 : BitVec 32 := 30#32
  let v327 : BitVec 1 := Scalar.cmpi .sle v2 c30_i32_166
  let v328 : BitVec 1 := Scalar.andi v326 v327
  let v329 : BitVec 32 := Scalar.extui v328
  let c0_i32_167 : BitVec 32 := 0#32
  let v330 : BitVec 1 := Scalar.cmpi .ne v329 c0_i32_167
  v330

def k0_dev45 (d0 : Dev nD) : Nat :=
  let c0_i32_410 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_404 : BitVec 32 := 1#32
  let v706 : BitVec 32 := Scalar.addi v2 c1_i32_404
  let c1_i32_409 : BitVec 32 := 1#32
  let v707 : BitVec 32 := Scalar.muli v706 c1_i32_409
  let v708 : BitVec 32 := Scalar.addi c0_i32_410 v707
  v708.toNat
def k0_cond71 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_172 : BitVec 32 := 13#32
  let v337 : BitVec 1 := Scalar.cmpi .sge v2 c13_i32_172
  let c30_i32_173 : BitVec 32 := 30#32
  let v338 : BitVec 1 := Scalar.cmpi .sle v2 c30_i32_173
  let v339 : BitVec 1 := Scalar.andi v337 v338
  let v340 : BitVec 32 := Scalar.extui v339
  let c0_i32_174 : BitVec 32 := 0#32
  let v341 : BitVec 1 := Scalar.cmpi .ne v340 c0_i32_174
  v341

def k0_dev46 (d0 : Dev nD) : Nat :=
  let c0_i32_410 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_404 : BitVec 32 := 1#32
  let v706 : BitVec 32 := Scalar.addi v2 c1_i32_404
  let c1_i32_409 : BitVec 32 := 1#32
  let v707 : BitVec 32 := Scalar.muli v706 c1_i32_409
  let v708 : BitVec 32 := Scalar.addi c0_i32_410 v707
  v708.toNat
def k0_cond74 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_179 : BitVec 32 := 14#32
  let v348 : BitVec 1 := Scalar.cmpi .sge v2 c14_i32_179
  let c30_i32_180 : BitVec 32 := 30#32
  let v349 : BitVec 1 := Scalar.cmpi .sle v2 c30_i32_180
  let v350 : BitVec 1 := Scalar.andi v348 v349
  let v351 : BitVec 32 := Scalar.extui v350
  let c0_i32_181 : BitVec 32 := 0#32
  let v352 : BitVec 1 := Scalar.cmpi .ne v351 c0_i32_181
  v352

def k0_dev47 (d0 : Dev nD) : Nat :=
  let c0_i32_410 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_404 : BitVec 32 := 1#32
  let v706 : BitVec 32 := Scalar.addi v2 c1_i32_404
  let c1_i32_409 : BitVec 32 := 1#32
  let v707 : BitVec 32 := Scalar.muli v706 c1_i32_409
  let v708 : BitVec 32 := Scalar.addi c0_i32_410 v707
  v708.toNat
def k0_cond77 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_186 : BitVec 32 := 15#32
  let v359 : BitVec 1 := Scalar.cmpi .sge v2 c15_i32_186
  let c30_i32_187 : BitVec 32 := 30#32
  let v360 : BitVec 1 := Scalar.cmpi .sle v2 c30_i32_187
  let v361 : BitVec 1 := Scalar.andi v359 v360
  let v362 : BitVec 32 := Scalar.extui v361
  let c0_i32_188 : BitVec 32 := 0#32
  let v363 : BitVec 1 := Scalar.cmpi .ne v362 c0_i32_188
  v363

def k0_dev48 (d0 : Dev nD) : Nat :=
  let c0_i32_410 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_404 : BitVec 32 := 1#32
  let v706 : BitVec 32 := Scalar.addi v2 c1_i32_404
  let c1_i32_409 : BitVec 32 := 1#32
  let v707 : BitVec 32 := Scalar.muli v706 c1_i32_409
  let v708 : BitVec 32 := Scalar.addi c0_i32_410 v707
  v708.toNat
def k0_cond80 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_193 : BitVec 32 := 16#32
  let v370 : BitVec 1 := Scalar.cmpi .sge v2 c16_i32_193
  let c30_i32_194 : BitVec 32 := 30#32
  let v371 : BitVec 1 := Scalar.cmpi .sle v2 c30_i32_194
  let v372 : BitVec 1 := Scalar.andi v370 v371
  let v373 : BitVec 32 := Scalar.extui v372
  let c0_i32_195 : BitVec 32 := 0#32
  let v374 : BitVec 1 := Scalar.cmpi .ne v373 c0_i32_195
  v374

def k0_dev49 (d0 : Dev nD) : Nat :=
  let c0_i32_410 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_404 : BitVec 32 := 1#32
  let v706 : BitVec 32 := Scalar.addi v2 c1_i32_404
  let c1_i32_409 : BitVec 32 := 1#32
  let v707 : BitVec 32 := Scalar.muli v706 c1_i32_409
  let v708 : BitVec 32 := Scalar.addi c0_i32_410 v707
  v708.toNat
def k0_cond83 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_200 : BitVec 32 := 17#32
  let v381 : BitVec 1 := Scalar.cmpi .sge v2 c17_i32_200
  let c30_i32_201 : BitVec 32 := 30#32
  let v382 : BitVec 1 := Scalar.cmpi .sle v2 c30_i32_201
  let v383 : BitVec 1 := Scalar.andi v381 v382
  let v384 : BitVec 32 := Scalar.extui v383
  let c0_i32_202 : BitVec 32 := 0#32
  let v385 : BitVec 1 := Scalar.cmpi .ne v384 c0_i32_202
  v385

def k0_dev50 (d0 : Dev nD) : Nat :=
  let c0_i32_410 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_404 : BitVec 32 := 1#32
  let v706 : BitVec 32 := Scalar.addi v2 c1_i32_404
  let c1_i32_409 : BitVec 32 := 1#32
  let v707 : BitVec 32 := Scalar.muli v706 c1_i32_409
  let v708 : BitVec 32 := Scalar.addi c0_i32_410 v707
  v708.toNat
def k0_cond86 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_207 : BitVec 32 := 18#32
  let v392 : BitVec 1 := Scalar.cmpi .sge v2 c18_i32_207
  let c30_i32_208 : BitVec 32 := 30#32
  let v393 : BitVec 1 := Scalar.cmpi .sle v2 c30_i32_208
  let v394 : BitVec 1 := Scalar.andi v392 v393
  let v395 : BitVec 32 := Scalar.extui v394
  let c0_i32_209 : BitVec 32 := 0#32
  let v396 : BitVec 1 := Scalar.cmpi .ne v395 c0_i32_209
  v396

def k0_dev51 (d0 : Dev nD) : Nat :=
  let c0_i32_410 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_404 : BitVec 32 := 1#32
  let v706 : BitVec 32 := Scalar.addi v2 c1_i32_404
  let c1_i32_409 : BitVec 32 := 1#32
  let v707 : BitVec 32 := Scalar.muli v706 c1_i32_409
  let v708 : BitVec 32 := Scalar.addi c0_i32_410 v707
  v708.toNat
def k0_cond89 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_214 : BitVec 32 := 19#32
  let v403 : BitVec 1 := Scalar.cmpi .sge v2 c19_i32_214
  let c30_i32_215 : BitVec 32 := 30#32
  let v404 : BitVec 1 := Scalar.cmpi .sle v2 c30_i32_215
  let v405 : BitVec 1 := Scalar.andi v403 v404
  let v406 : BitVec 32 := Scalar.extui v405
  let c0_i32_216 : BitVec 32 := 0#32
  let v407 : BitVec 1 := Scalar.cmpi .ne v406 c0_i32_216
  v407

def k0_dev52 (d0 : Dev nD) : Nat :=
  let c0_i32_410 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_404 : BitVec 32 := 1#32
  let v706 : BitVec 32 := Scalar.addi v2 c1_i32_404
  let c1_i32_409 : BitVec 32 := 1#32
  let v707 : BitVec 32 := Scalar.muli v706 c1_i32_409
  let v708 : BitVec 32 := Scalar.addi c0_i32_410 v707
  v708.toNat
def k0_cond92 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_221 : BitVec 32 := 20#32
  let v414 : BitVec 1 := Scalar.cmpi .sge v2 c20_i32_221
  let c30_i32_222 : BitVec 32 := 30#32
  let v415 : BitVec 1 := Scalar.cmpi .sle v2 c30_i32_222
  let v416 : BitVec 1 := Scalar.andi v414 v415
  let v417 : BitVec 32 := Scalar.extui v416
  let c0_i32_223 : BitVec 32 := 0#32
  let v418 : BitVec 1 := Scalar.cmpi .ne v417 c0_i32_223
  v418

def k0_dev53 (d0 : Dev nD) : Nat :=
  let c0_i32_410 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_404 : BitVec 32 := 1#32
  let v706 : BitVec 32 := Scalar.addi v2 c1_i32_404
  let c1_i32_409 : BitVec 32 := 1#32
  let v707 : BitVec 32 := Scalar.muli v706 c1_i32_409
  let v708 : BitVec 32 := Scalar.addi c0_i32_410 v707
  v708.toNat
def k0_cond95 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_228 : BitVec 32 := 21#32
  let v425 : BitVec 1 := Scalar.cmpi .sge v2 c21_i32_228
  let c30_i32_229 : BitVec 32 := 30#32
  let v426 : BitVec 1 := Scalar.cmpi .sle v2 c30_i32_229
  let v427 : BitVec 1 := Scalar.andi v425 v426
  let v428 : BitVec 32 := Scalar.extui v427
  let c0_i32_230 : BitVec 32 := 0#32
  let v429 : BitVec 1 := Scalar.cmpi .ne v428 c0_i32_230
  v429

def k0_dev54 (d0 : Dev nD) : Nat :=
  let c0_i32_410 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_404 : BitVec 32 := 1#32
  let v706 : BitVec 32 := Scalar.addi v2 c1_i32_404
  let c1_i32_409 : BitVec 32 := 1#32
  let v707 : BitVec 32 := Scalar.muli v706 c1_i32_409
  let v708 : BitVec 32 := Scalar.addi c0_i32_410 v707
  v708.toNat
def k0_cond98 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_235 : BitVec 32 := 22#32
  let v436 : BitVec 1 := Scalar.cmpi .sge v2 c22_i32_235
  let c30_i32_236 : BitVec 32 := 30#32
  let v437 : BitVec 1 := Scalar.cmpi .sle v2 c30_i32_236
  let v438 : BitVec 1 := Scalar.andi v436 v437
  let v439 : BitVec 32 := Scalar.extui v438
  let c0_i32_237 : BitVec 32 := 0#32
  let v440 : BitVec 1 := Scalar.cmpi .ne v439 c0_i32_237
  v440

def k0_dev55 (d0 : Dev nD) : Nat :=
  let c0_i32_410 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_404 : BitVec 32 := 1#32
  let v706 : BitVec 32 := Scalar.addi v2 c1_i32_404
  let c1_i32_409 : BitVec 32 := 1#32
  let v707 : BitVec 32 := Scalar.muli v706 c1_i32_409
  let v708 : BitVec 32 := Scalar.addi c0_i32_410 v707
  v708.toNat
def k0_cond101 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_242 : BitVec 32 := 23#32
  let v447 : BitVec 1 := Scalar.cmpi .sge v2 c23_i32_242
  let c30_i32_243 : BitVec 32 := 30#32
  let v448 : BitVec 1 := Scalar.cmpi .sle v2 c30_i32_243
  let v449 : BitVec 1 := Scalar.andi v447 v448
  let v450 : BitVec 32 := Scalar.extui v449
  let c0_i32_244 : BitVec 32 := 0#32
  let v451 : BitVec 1 := Scalar.cmpi .ne v450 c0_i32_244
  v451

def k0_dev56 (d0 : Dev nD) : Nat :=
  let c0_i32_410 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_404 : BitVec 32 := 1#32
  let v706 : BitVec 32 := Scalar.addi v2 c1_i32_404
  let c1_i32_409 : BitVec 32 := 1#32
  let v707 : BitVec 32 := Scalar.muli v706 c1_i32_409
  let v708 : BitVec 32 := Scalar.addi c0_i32_410 v707
  v708.toNat
def k0_cond104 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_249 : BitVec 32 := 24#32
  let v458 : BitVec 1 := Scalar.cmpi .sge v2 c24_i32_249
  let c30_i32_250 : BitVec 32 := 30#32
  let v459 : BitVec 1 := Scalar.cmpi .sle v2 c30_i32_250
  let v460 : BitVec 1 := Scalar.andi v458 v459
  let v461 : BitVec 32 := Scalar.extui v460
  let c0_i32_251 : BitVec 32 := 0#32
  let v462 : BitVec 1 := Scalar.cmpi .ne v461 c0_i32_251
  v462

def k0_dev57 (d0 : Dev nD) : Nat :=
  let c0_i32_410 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_404 : BitVec 32 := 1#32
  let v706 : BitVec 32 := Scalar.addi v2 c1_i32_404
  let c1_i32_409 : BitVec 32 := 1#32
  let v707 : BitVec 32 := Scalar.muli v706 c1_i32_409
  let v708 : BitVec 32 := Scalar.addi c0_i32_410 v707
  v708.toNat
def k0_cond107 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_256 : BitVec 32 := 25#32
  let v469 : BitVec 1 := Scalar.cmpi .sge v2 c25_i32_256
  let c30_i32_257 : BitVec 32 := 30#32
  let v470 : BitVec 1 := Scalar.cmpi .sle v2 c30_i32_257
  let v471 : BitVec 1 := Scalar.andi v469 v470
  let v472 : BitVec 32 := Scalar.extui v471
  let c0_i32_258 : BitVec 32 := 0#32
  let v473 : BitVec 1 := Scalar.cmpi .ne v472 c0_i32_258
  v473

def k0_dev58 (d0 : Dev nD) : Nat :=
  let c0_i32_410 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_404 : BitVec 32 := 1#32
  let v706 : BitVec 32 := Scalar.addi v2 c1_i32_404
  let c1_i32_409 : BitVec 32 := 1#32
  let v707 : BitVec 32 := Scalar.muli v706 c1_i32_409
  let v708 : BitVec 32 := Scalar.addi c0_i32_410 v707
  v708.toNat
def k0_cond110 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_263 : BitVec 32 := 26#32
  let v480 : BitVec 1 := Scalar.cmpi .sge v2 c26_i32_263
  let c30_i32_264 : BitVec 32 := 30#32
  let v481 : BitVec 1 := Scalar.cmpi .sle v2 c30_i32_264
  let v482 : BitVec 1 := Scalar.andi v480 v481
  let v483 : BitVec 32 := Scalar.extui v482
  let c0_i32_265 : BitVec 32 := 0#32
  let v484 : BitVec 1 := Scalar.cmpi .ne v483 c0_i32_265
  v484

def k0_dev59 (d0 : Dev nD) : Nat :=
  let c0_i32_410 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_404 : BitVec 32 := 1#32
  let v706 : BitVec 32 := Scalar.addi v2 c1_i32_404
  let c1_i32_409 : BitVec 32 := 1#32
  let v707 : BitVec 32 := Scalar.muli v706 c1_i32_409
  let v708 : BitVec 32 := Scalar.addi c0_i32_410 v707
  v708.toNat
def k0_cond113 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_270 : BitVec 32 := 27#32
  let v491 : BitVec 1 := Scalar.cmpi .sge v2 c27_i32_270
  let c30_i32_271 : BitVec 32 := 30#32
  let v492 : BitVec 1 := Scalar.cmpi .sle v2 c30_i32_271
  let v493 : BitVec 1 := Scalar.andi v491 v492
  let v494 : BitVec 32 := Scalar.extui v493
  let c0_i32_272 : BitVec 32 := 0#32
  let v495 : BitVec 1 := Scalar.cmpi .ne v494 c0_i32_272
  v495

def k0_dev60 (d0 : Dev nD) : Nat :=
  let c0_i32_410 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_404 : BitVec 32 := 1#32
  let v706 : BitVec 32 := Scalar.addi v2 c1_i32_404
  let c1_i32_409 : BitVec 32 := 1#32
  let v707 : BitVec 32 := Scalar.muli v706 c1_i32_409
  let v708 : BitVec 32 := Scalar.addi c0_i32_410 v707
  v708.toNat
def k0_cond116 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_277 : BitVec 32 := 28#32
  let v502 : BitVec 1 := Scalar.cmpi .sge v2 c28_i32_277
  let c30_i32_278 : BitVec 32 := 30#32
  let v503 : BitVec 1 := Scalar.cmpi .sle v2 c30_i32_278
  let v504 : BitVec 1 := Scalar.andi v502 v503
  let v505 : BitVec 32 := Scalar.extui v504
  let c0_i32_279 : BitVec 32 := 0#32
  let v506 : BitVec 1 := Scalar.cmpi .ne v505 c0_i32_279
  v506

def k0_dev61 (d0 : Dev nD) : Nat :=
  let c0_i32_410 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_404 : BitVec 32 := 1#32
  let v706 : BitVec 32 := Scalar.addi v2 c1_i32_404
  let c1_i32_409 : BitVec 32 := 1#32
  let v707 : BitVec 32 := Scalar.muli v706 c1_i32_409
  let v708 : BitVec 32 := Scalar.addi c0_i32_410 v707
  v708.toNat
def k0_cond119 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_284 : BitVec 32 := 29#32
  let v513 : BitVec 1 := Scalar.cmpi .sge v2 c29_i32_284
  let c30_i32_285 : BitVec 32 := 30#32
  let v514 : BitVec 1 := Scalar.cmpi .sle v2 c30_i32_285
  let v515 : BitVec 1 := Scalar.andi v513 v514
  let v516 : BitVec 32 := Scalar.extui v515
  let c0_i32_286 : BitVec 32 := 0#32
  let v517 : BitVec 1 := Scalar.cmpi .ne v516 c0_i32_286
  v517

def k0_dev62 (d0 : Dev nD) : Nat :=
  let c0_i32_410 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_404 : BitVec 32 := 1#32
  let v706 : BitVec 32 := Scalar.addi v2 c1_i32_404
  let c1_i32_409 : BitVec 32 := 1#32
  let v707 : BitVec 32 := Scalar.muli v706 c1_i32_409
  let v708 : BitVec 32 := Scalar.addi c0_i32_410 v707
  v708.toNat
def k0_cond122 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_291 : BitVec 32 := 30#32
  let v524 : BitVec 1 := Scalar.cmpi .sge v2 c30_i32_291
  let c30_i32_292 : BitVec 32 := 30#32
  let v525 : BitVec 1 := Scalar.cmpi .sle v2 c30_i32_292
  let v526 : BitVec 1 := Scalar.andi v524 v525
  let v527 : BitVec 32 := Scalar.extui v526
  let c0_i32_293 : BitVec 32 := 0#32
  let v528 : BitVec 1 := Scalar.cmpi .ne v527 c0_i32_293
  v528

def k0_dev63 (d0 : Dev nD) : Nat :=
  let c0_i32_410 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_404 : BitVec 32 := 1#32
  let v706 : BitVec 32 := Scalar.addi v2 c1_i32_404
  let c1_i32_409 : BitVec 32 := 1#32
  let v707 : BitVec 32 := Scalar.muli v706 c1_i32_409
  let v708 : BitVec 32 := Scalar.addi c0_i32_410 v707
  v708.toNat
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x4096x512 : Shape := ⟨3, ![2, 4096, 512]⟩
abbrev S512x256 : Shape := ⟨2, ![512, 256]⟩
abbrev S2x4096x4x64 : Shape := ⟨4, ![2, 4096, 4, 64]⟩
abbrev S256x512 : Shape := ⟨2, ![256, 512]⟩
abbrev S2x4096x256 : Shape := ⟨3, ![2, 4096, 256]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S2x4x4096x4096 : Shape := ⟨4, ![2, 4, 4096, 4096]⟩
abbrev S1x1x4096x4096 : Shape := ⟨4, ![1, 1, 4096, 4096]⟩
abbrev S2x4x4096 : Shape := ⟨3, ![2, 4, 4096]⟩
abbrev S2x4x4096x1 : Shape := ⟨4, ![2, 4, 4096, 1]⟩
abbrev S1x1x4096x1 : Shape := ⟨4, ![1, 1, 4096, 1]⟩
abbrev S2x4x64x4096 : Shape := ⟨4, ![2, 4, 64, 4096]⟩

abbrev nBuf : Space → Nat
  | .hbm => 89
  | .vmem => 0
  | .smem => 0
  | _ => 0

abbrev bufTy : (tb : Table) → Fin (tcTables nBuf tb) → BufTy
  | .hbm, ⟨0, _⟩ => ⟨S2x4096x512, .f32⟩
  | .hbm, ⟨1, _⟩ => ⟨S512x256, .f32⟩
  | .hbm, ⟨2, _⟩ => ⟨S2x4096x4x64, .f32⟩
  | .hbm, ⟨3, _⟩ => ⟨S2x4096x4x64, .f32⟩
  | .hbm, ⟨4, _⟩ => ⟨S256x512, .f32⟩
  | .hbm, ⟨5, _⟩ => ⟨S2x4096x256, .f32⟩
  | .hbm, ⟨6, _⟩ => ⟨S2x4096x4x64, .f32⟩
  | .hbm, ⟨7, _⟩ => ⟨S4096, .i32⟩
  | .hbm, ⟨8, _⟩ => ⟨S_, .i32⟩
  | .hbm, ⟨9, _⟩ => ⟨S_, .i32⟩
  | .hbm, ⟨10, _⟩ => ⟨S4096, .i32⟩
  | .hbm, ⟨11, _⟩ => ⟨S4096, .i32⟩
  | .hbm, ⟨12, _⟩ => ⟨S4096, .i32⟩
  | .hbm, ⟨13, _⟩ => ⟨S_, .i32⟩
  | .hbm, ⟨14, _⟩ => ⟨S4096, .i32⟩
  | .hbm, ⟨15, _⟩ => ⟨S4096, .i1⟩
  | .hbm, ⟨16, _⟩ => ⟨S4096, .i32⟩
  | .hbm, ⟨17, _⟩ => ⟨S4096, .i32⟩
  | .hbm, ⟨18, _⟩ => ⟨S_, .i32⟩
  | .hbm, ⟨19, _⟩ => ⟨S4096, .i32⟩
  | .hbm, ⟨20, _⟩ => ⟨S4096, .i1⟩
  | .hbm, ⟨21, _⟩ => ⟨S4096, .i1⟩
  | .hbm, ⟨22, _⟩ => ⟨S_, .i32⟩
  | .hbm, ⟨23, _⟩ => ⟨S4096, .i32⟩
  | .hbm, ⟨24, _⟩ => ⟨S4096, .i32⟩
  | .hbm, ⟨25, _⟩ => ⟨S4096, .i32⟩
  | .hbm, ⟨26, _⟩ => ⟨S4096x1, .i32⟩
  | .hbm, ⟨27, _⟩ => ⟨S4096, .i32⟩
  | .hbm, ⟨28, _⟩ => ⟨S_, .i32⟩
  | .hbm, ⟨29, _⟩ => ⟨S_, .i32⟩
  | .hbm, ⟨30, _⟩ => ⟨S4096, .i32⟩
  | .hbm, ⟨31, _⟩ => ⟨S4096, .i32⟩
  | .hbm, ⟨32, _⟩ => ⟨S4096, .i32⟩
  | .hbm, ⟨33, _⟩ => ⟨S_, .i32⟩
  | .hbm, ⟨34, _⟩ => ⟨S4096, .i32⟩
  | .hbm, ⟨35, _⟩ => ⟨S4096, .i1⟩
  | .hbm, ⟨36, _⟩ => ⟨S4096, .i32⟩
  | .hbm, ⟨37, _⟩ => ⟨S4096, .i32⟩
  | .hbm, ⟨38, _⟩ => ⟨S_, .i32⟩
  | .hbm, ⟨39, _⟩ => ⟨S4096, .i32⟩
  | .hbm, ⟨40, _⟩ => ⟨S4096, .i1⟩
  | .hbm, ⟨41, _⟩ => ⟨S4096, .i1⟩
  | .hbm, ⟨42, _⟩ => ⟨S_, .i32⟩
  | .hbm, ⟨43, _⟩ => ⟨S4096, .i32⟩
  | .hbm, ⟨44, _⟩ => ⟨S4096, .i32⟩
  | .hbm, ⟨45, _⟩ => ⟨S4096, .i32⟩
  | .hbm, ⟨46, _⟩ => ⟨S1x4096, .i32⟩
  | .hbm, ⟨47, _⟩ => ⟨S4096x4096, .i32⟩
  | .hbm, ⟨48, _⟩ => ⟨S4096x4096, .i32⟩
  | .hbm, ⟨49, _⟩ => ⟨S4096x4096, .i1⟩
  | .hbm, ⟨50, _⟩ => ⟨S2x4x4096x4096, .f32⟩
  | .hbm, ⟨51, _⟩ => ⟨S_, .f32⟩
  | .hbm, ⟨52, _⟩ => ⟨S2x4x4096x4096, .f32⟩
  | .hbm, ⟨53, _⟩ => ⟨S2x4x4096x4096, .f32⟩
  | .hbm, ⟨54, _⟩ => ⟨S1x1x4096x4096, .i1⟩
  | .hbm, ⟨55, _⟩ => ⟨S_, .f32⟩
  | .hbm, ⟨56, _⟩ => ⟨S_, .f32⟩
  | .hbm, ⟨57, _⟩ => ⟨S2x4x4096x4096, .i1⟩
  | .hbm, ⟨58, _⟩ => ⟨S2x4x4096x4096, .f32⟩
  | .hbm, ⟨59, _⟩ => ⟨S2x4x4096x4096, .f32⟩
  | .hbm, ⟨60, _⟩ => ⟨S_, .f32⟩
  | .hbm, ⟨61, _⟩ => ⟨S2x4x4096, .f32⟩
  | .hbm, ⟨62, _⟩ => ⟨S2x4x4096x1, .f32⟩
  | .hbm, ⟨63, _⟩ => ⟨S2x4x4096x4096, .f32⟩
  | .hbm, ⟨64, _⟩ => ⟨S2x4x4096x4096, .f32⟩
  | .hbm, ⟨65, _⟩ => ⟨S2x4x4096x4096, .f32⟩
  | .hbm, ⟨66, _⟩ => ⟨S_, .i1⟩
  | .hbm, ⟨67, _⟩ => ⟨S4096, .i1⟩
  | .hbm, ⟨68, _⟩ => ⟨S1x1x4096x1, .i1⟩
  | .hbm, ⟨69, _⟩ => ⟨S_, .f32⟩
  | .hbm, ⟨70, _⟩ => ⟨S2x4x4096, .f32⟩
  | .hbm, ⟨71, _⟩ => ⟨S2x4x4096x1, .f32⟩
  | .hbm, ⟨72, _⟩ => ⟨S_, .f32⟩
  | .hbm, ⟨73, _⟩ => ⟨S_, .f32⟩
  | .hbm, ⟨74, _⟩ => ⟨S2x4x4096x1, .i1⟩
  | .hbm, ⟨75, _⟩ => ⟨S2x4x4096x1, .f32⟩
  | .hbm, ⟨76, _⟩ => ⟨S2x4x4096x1, .f32⟩
  | .hbm, ⟨77, _⟩ => ⟨S2x4x4096x4096, .f32⟩
  | .hbm, ⟨78, _⟩ => ⟨S2x4x4096x4096, .f32⟩
  | .hbm, ⟨79, _⟩ => ⟨S1x1x4096x1, .i1⟩
  | .hbm, ⟨80, _⟩ => ⟨S_, .f32⟩
  | .hbm, ⟨81, _⟩ => ⟨S_, .f32⟩
  | .hbm, ⟨82, _⟩ => ⟨S2x4x4096x4096, .i1⟩
  | .hbm, ⟨83, _⟩ => ⟨S2x4x4096x4096, .f32⟩
  | .hbm, ⟨84, _⟩ => ⟨S2x4x4096x4096, .f32⟩
  | .hbm, ⟨85, _⟩ => ⟨S2x4x64x4096, .f32⟩
  | .hbm, ⟨86, _⟩ => ⟨S2x4096x4x64, .f32⟩
  | .hbm, ⟨87, _⟩ => ⟨S2x4096x256, .f32⟩
  | .hbm, ⟨88, _⟩ => ⟨S2x4096x512, .f32⟩
  | _, _ => ⟨S2x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_cst : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_cst_1 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v15 : Ref sig .tc := ⟨.hbm, 59, rfl⟩
abbrev main_cst_2 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_c_3 : Ref sig .tc := ⟨.hbm, 66, rfl⟩
abbrev main_v21 : Ref sig .tc := ⟨.hbm, 67, rfl⟩
abbrev main_v22 : Ref sig .tc := ⟨.hbm, 68, rfl⟩
abbrev main_cst_4 : Ref sig .tc := ⟨.hbm, 69, rfl⟩
abbrev main_v23 : Ref sig .tc := ⟨.hbm, 70, rfl⟩
abbrev main_v24 : Ref sig .tc := ⟨.hbm, 71, rfl⟩
abbrev main_cst_5 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_6 : Ref sig .tc := ⟨.hbm, 80, rfl⟩
abbrev main_call4_v0 : Ref sig .tc := ⟨.hbm, 81, rfl⟩
abbrev main_call4_v1 : Ref sig .tc := ⟨.hbm, 82, rfl⟩
abbrev main_call4_v2 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩

abbrev nD : Nat := 1
abbrev τ : Topo := Topo.v7x

variable {F : FTy → Type} [FloatOps F]
-- ==== Proof.Steps.lean ====
/-
# The kernel's body as one list of steps

The printed body is a sequence of some 160 guarded operations, cut into parts. Here each KIND of operation is one program over the device `d` and a
hop or device number: signal device `t`, wait for slot `h`, forward slot `h`, accumulate slot `h`, wait for the send from slot `h`, … The theorem
`body_eq` says that the printed body is the list of these steps, in order; every later statement is about a step, made once for every hop.
-/
module

public import proofs.«01_k».proof.Proof.Gen.KernelIdeal.Skeleton

@[expose] public section

set_option synthInstance.maxSize 4096

noncomputable section

namespace Cert.Chain

open Cert.KernelIdeal Cert.KernelIdeal.Gen
open Idealize.ShloMosaic Idealize.SL.Sem

variable {F : FTy → Type} [FloatOps F]

/-- Programs of the kernel's body. -/
abbrev BProg (F : FTy → Type) (α : Type) : Type 1 := Prog (TpuEff nD τ sig (Elt F) Λ₀ .tc) α

/-! ## The conditions -/

/-- The device's number as the kernel computes it. -/
abbrev w2 (d : Dev nD) : BitVec 32 := Scalar.remsi (Scalar.divsi (Dev.word d) 1#32) 32#32
/-- A printed condition: the bit widened and compared with zero. -/
abbrev ne0 (b : BitVec 1) : BitVec 1 := Scalar.cmpi .ne (Scalar.extui b : BitVec 32) 0#32
/-- `d ≠ n`, as the kernel computes it. -/
abbrev neW (d : Dev nD) (n : ℕ) : BitVec 1 := ne0 (Scalar.cmpi .ne (w2 d) (BitVec.ofNat 32 n))
/-- `n ≤ d`, as the kernel computes it. -/
abbrev geW (d : Dev nD) (n : ℕ) : BitVec 1 := ne0 (Scalar.cmpi .sge (w2 d) (BitVec.ofNat 32 n))
/-- `n ≤ d ≤ 30`, as the kernel computes it. -/
abbrev midW (d : Dev nD) (n : ℕ) : BitVec 1 := ne0 (Scalar.andi (Scalar.cmpi .sge (w2 d) (BitVec.ofNat 32 n)) (Scalar.cmpi .sle (w2 d) 30#32))

theorem neW_iff : ∀ (d : Dev nD) (t : Fin 32), neW d t.val = 1#1 ↔ d.val ≠ t.val := by decide +kernel
theorem geW_iff : ∀ (d : Dev nD) (t : Fin 32), geW d t.val = 1#1 ↔ t.val ≤ d.val := by decide +kernel
theorem midW_iff : ∀ (d : Dev nD) (t : Fin 32), midW d t.val = 1#1 ↔ t.val ≤ d.val ∧ d.val ≤ 30 := by decide +kernel

/-- A device that forwards has a next device. -/
theorem next_lt (d : Dev nD) (h : Fin 32) (hc : midW d h.val = 1#1) : k0_dev33 d < nD := by
  rw [k0_dev33_eq]; have := ((midW_iff d h).mp hc).2; show d.val + 1 < 32; omega
theorem next_lt0 (d : Dev nD) (hc : k0_cond33 d = 1#1) : k0_dev33 d < nD := k0_dev33_lt d hc

/-! ## The buffers -/

abbrev xM : Memref sig .tc .vmem S2x128x512 .f32 := Memref.whole cc0_stg0_0
abbrev wqM : Memref sig .tc .vmem S512x256 .f32 := Memref.whole cc0_stg1_0
abbrev kM : Memref sig .tc .vmem S2x128x4x64 .f32 := Memref.whole cc0_stg2_0
abbrev vM : Memref sig .tc .vmem S2x128x4x64 .f32 := Memref.whole cc0_stg3_0
abbrev woM : Memref sig .tc .vmem S256x512 .f32 := Memref.whole cc0_stg4_0
abbrev oM : Memref sig .tc .vmem S2x128x512 .f32 := Memref.whole cc0_stg5_0
/-- The device's own keys and values, as sent. -/
abbrev kvM : Memref sig .tc .vmem S2x8x128x64 .bf16 := Memref.whole cc0_scratch0
/-- The 31 landing slots. -/
abbrev cM : Memref sig .tc .vmem S31x2x8x128x64 .bf16 := Memref.whole cc0_scratch1
abbrev aM : Memref sig .tc .vmem S8x128x64 .f32 := Memref.whole cc0_scratch2
abbrev lM : Memref sig .tc .vmem S8x128 .f32 := Memref.whole cc0_scratch3

/-- Slot `h` lies inside the landing buffer. -/
theorem inbSlot : ∀ (h : Fin 31) a, (![h.val, 0, 0, 0, 0] : Fin 5 → Nat) a + S1x2x8x128x64.size a ≤ S31x2x8x128x64.size a := by decide
theorem inbHalf : ∀ (h : Fin 31) (s : Fin 2) a, (![h.val, s.val, 0, 0, 0] : Fin 5 → Nat) a + S1x1x8x128x64.size a ≤ S31x2x8x128x64.size a := by decide
theorem inbSem : ∀ (h : Fin 31) a, (![h.val] : Fin 1 → Nat) a + S1.size a ≤ S31.size a := by decide
/-- A slot is a whole number of the memory's words. -/
theorem wordsSlot : ∀ h : Fin 31, (Rect.unit (s := S31x2x8x128x64) ![h.val, 0, 0, 0, 0] S1x2x8x128x64.size (inbSlot h)).WholeWords (EltTy.packing .bf16) := by decide

/-- Slot `h` of the landing buffer. -/
abbrev slotM (h : Fin 31) : Memref sig .tc .vmem S2x8x128x64 .bf16 :=
  (cM.slice (Rect.unit (s := S31x2x8x128x64) ![h.val, 0, 0, 0, 0] S1x2x8x128x64.size (inbSlot h)) (fun _ => rfl)).squeeze S2x8x128x64 Gen.squeezes_S1x2x8x128x64_S2x8x128x64
theorem slot_words (h : Fin 31) : (slotM h).view.WordExact :=
  ((Memref.isWhole_whole cc0_scratch1).wordExact_slice rfl _ (wordsSlot h)).reshape _ _

/-- The semaphore of the send number `h`: of the own block for `0`, else of slot `h - 1`. -/
abbrev sendQ (h : Fin 31) : DmaSem sig := ((cc0_scratch4.slice (Rect.unit (s := S31) ![h.val] S1.size (inbSem h))).squeeze S_ Gen.squeezes_S1_S_).sem
/-- The semaphore of the landing in slot `h`. -/
abbrev recvQ (h : Fin 31) : DmaSem sig := ((cc0_scratch5.slice (Rect.unit (s := S31) ![h.val] S1.size (inbSem h))).squeeze S_ Gen.squeezes_S1_S_).sem
/-- The barrier's semaphore. -/
abbrev barS : Sem sig := (SemArray.scalar (sig.barrier 0 rfl) : Sems sig S_).sem

abbrev rX : Rect S2x128x512 := Rect.unit (s := S2x128x512) ![0, 0, 0] S2x128x512.size Gen.inb_S2x128x512_S2x128x512_0_0_0
abbrev rWq : Rect S512x256 := Rect.unit (s := S512x256) ![0, 0] S512x256.size Gen.inb_S512x256_S512x256_0_0
abbrev rK : Rect S2x128x4x64 := Rect.unit (s := S2x128x4x64) ![0, 0, 0, 0] S2x128x4x64.size Gen.inb_S2x128x4x64_S2x128x4x64_0_0_0_0
abbrev rWo : Rect S256x512 := Rect.unit (s := S256x512) ![0, 0] S256x512.size Gen.inb_S256x512_S256x512_0_0
abbrev rA : Rect S8x128x64 := Rect.unit (s := S8x128x64) ![0, 0, 0] S8x128x64.size Gen.inb_S8x128x64_S8x128x64_0_0_0
abbrev rL : Rect S8x128 := Rect.unit (s := S8x128) ![0, 0] S8x128.size Gen.inb_S8x128_S8x128_0_0
abbrev rK0 : Rect S2x8x128x64 := Rect.unit (s := S2x8x128x64) ![0, 0, 0, 0] S1x8x128x64.size Gen.inb_S2x8x128x64_S1x8x128x64_0_0_0_0
abbrev rK1 : Rect S2x8x128x64 := Rect.unit (s := S2x8x128x64) ![1, 0, 0, 0] S1x8x128x64.size Gen.inb_S2x8x128x64_S1x8x128x64_1_0_0_0
/-- The keys (`s = 0`) or the values (`s = 1`) of slot `h`. -/
abbrev rC (h : Fin 31) (s : Fin 2) : Rect S31x2x8x128x64 := Rect.unit (s := S31x2x8x128x64) ![h.val, s.val, 0, 0, 0] S1x1x8x128x64.size (inbHalf h s)

/-! ## The steps -/

/-- Signal device `t`'s barrier, unless `t` is this device. -/
def sigStep (d : Dev nD) (t : Fin 32) : BProg F PUnit :=
  if h : neW d t.val = 1#1 then do
    semSignalWord (t : Dev nD) barS 1#32
    pure ⟨⟩
  else do pure ⟨⟩

/-- Wait for the other 31 devices. -/
def barStep : BProg F PUnit := semWaitWord barS 31#32

/-- The device's keys and values, laid out head by head and put in the buffer that is sent. -/
def kvStep : BProg F PUnit := do
  let k : Vec F S2x128x4x64 .f32 ← Prog.lift (.load kM rK.toLoadRect (View.loadsAt_vmem h_S2x128x4x64))
  let _ : Vec F S1x8x128x64 .bf16 ← Prog.lift (.load kvM rK0.toLoadRect (View.loadsAt_vmem h_S1x8x128x64))
  Prog.lift (.store kvM rK0 (k0_pay1 k) Finset.univ (View.stores_vmem h_S1x8x128x64 ((Memref.isWhole_whole cc0_scratch0).storeExact_slice rfl _ Gen.packedbf16_S2x8x128x64_S1x8x128x64_0_0_0_0) (fun _ => rfl)) (.inl rfl))
  let v : Vec F S2x128x4x64 .f32 ← Prog.lift (.load vM rK.toLoadRect (View.loadsAt_vmem h_S2x128x4x64))
  let _ : Vec F S1x8x128x64 .bf16 ← Prog.lift (.load kvM rK1.toLoadRect (View.loadsAt_vmem h_S1x8x128x64))
  Prog.lift (.store kvM rK1 (k0_pay2 v) Finset.univ (View.stores_vmem h_S1x8x128x64 ((Memref.isWhole_whole cc0_scratch0).storeExact_slice rfl _ Gen.packedbf16_S2x8x128x64_S1x8x128x64_1_0_0_0) (fun _ => rfl)) (.inl rfl))

/-- Send the own block to slot 0 of the next device. -/
def sendStep (d : Dev nD) : BProg F PUnit :=
  if h : k0_cond33 d = 1#1 then do
    Prog.lift (.enqueueDma kvM (.remote (Dev.tc (⟨k0_dev33 d, next_lt0 d h⟩ : Dev nD)) (slotM 0) (.dma (sendQ 0))) (.dma (recvQ 0)) (Memref.isWhole_whole cc0_scratch0).wordExact (slot_words 0) ⟨⟨rfl, Or.inl rfl⟩, trivial⟩)
    pure ⟨⟩
  else do pure ⟨⟩

/-- The own block's contribution, which starts the two accumulators. -/
def ownStep (q : FVec F S8x128x64 .bf16) : BProg F PUnit := do
  let k : Vec F S1x8x128x64 .bf16 ← Prog.lift (.load kvM rK0.toLoadRect (View.loadsAt_vmem h_S1x8x128x64))
  let v : Vec F S1x8x128x64 .bf16 ← Prog.lift (.load kvM rK1.toLoadRect (View.loadsAt_vmem h_S1x8x128x64))
  let _ : Vec F S8x128x64 .f32 ← Prog.lift (.load aM rA.toLoadRect (View.loadsAt_vmem h_S8x128x64))
  Prog.lift (.store aM rA (k0_pay8 q k0_pay4 (iota .tc S128x128 32 [1] Gen.iota_S128x128_d1_w32) 64#32 k0_pay5 k0_pay6 k v) Finset.univ (View.stores_vmem_bits_univ h_S8x128x64 rfl) (.inl rfl))
  let _ : Vec F S8x128 .f32 ← Prog.lift (.load lM rL.toLoadRect (View.loadsAt_vmem h_S8x128))
  Prog.lift (.store lM rL (k0_pay10 (k0_pay9 q k0_pay4 (iota .tc S128x128 32 [1] Gen.iota_S128x128_d1_w32) 64#32 k0_pay5 k0_pay6 k)) Finset.univ (View.stores_vmem_bits_univ h_S8x128 rfl) (.inl rfl))

/-- Wait for the landing in slot `h`, if this device receives one there. -/
def recvStep (d : Dev nD) (h : Fin 31) : BProg F PUnit :=
  if _h : geW d (h.val + 1) = 1#1 then do
    Prog.lift (.waitDma2 (recvQ h) kvM (slotM h) (Memref.isWhole_whole cc0_scratch0).wordExact (slot_words h))
    pure ⟨⟩
  else do pure ⟨⟩

/-- Forward slot `h` to slot `h + 1` of the next device, if this device received it and has a next device. -/
def fwdStep (d : Dev nD) (h : Fin 30) : BProg F PUnit :=
  if hc : midW d (h.val + 1) = 1#1 then do
    Prog.lift (.enqueueDma (slotM h.castSucc) (.remote (Dev.tc (⟨k0_dev33 d, next_lt d ⟨h.val + 1, by omega⟩ hc⟩ : Dev nD)) (slotM h.succ) (.dma (sendQ h.succ))) (.dma (recvQ h.succ)) (slot_words h.castSucc) (slot_words h.succ) ⟨⟨rfl, Or.inl rfl⟩, trivial⟩)
    pure ⟨⟩
  else do pure ⟨⟩

/-- Add slot `h`'s contribution to the two accumulators, if this device received it. -/
def accStep (d : Dev nD) (q : FVec F S8x128x64 .bf16) (h : Fin 31) : BProg F PUnit :=
  if _h : geW d (h.val + 1) = 1#1 then do
    let k : Vec F S1x1x8x128x64 .bf16 ← Prog.lift (.load cM (rC h 0).toLoadRect (View.loadsAt_vmem h_S1x1x8x128x64))
    let v : Vec F S1x1x8x128x64 .bf16 ← Prog.lift (.load cM (rC h 1).toLoadRect (View.loadsAt_vmem h_S1x1x8x128x64))
    let a : Vec F S8x128x64 .f32 ← Prog.lift (.load aM rA.toLoadRect (View.loadsAt_vmem h_S8x128x64))
    let _ : Vec F S8x128x64 .f32 ← Prog.lift (.load aM rA.toLoadRect (View.loadsAt_vmem h_S8x128x64))
    Prog.lift (.store aM rA (k0_pay12 q k v a) Finset.univ (View.stores_vmem_bits_univ h_S8x128x64 rfl) (.inl rfl))
    let l : Vec F S8x128 .f32 ← Prog.lift (.load lM rL.toLoadRect (View.loadsAt_vmem h_S8x128))
    let _ : Vec F S8x128 .f32 ← Prog.lift (.load lM rL.toLoadRect (View.loadsAt_vmem h_S8x128))
    Prog.lift (.store lM rL (k0_pay13 q k l) Finset.univ (View.stores_vmem_bits_univ h_S8x128 rfl) (.inl rfl))
    pure ⟨⟩
  else do pure ⟨⟩

/-- The result: the quotient of the accumulators times the output weights. -/
def outStep : BProg F PUnit := do
  let a : Vec F S8x128x64 .f32 ← Prog.lift (.load aM rA.toLoadRect (View.loadsAt_vmem h_S8x128x64))
  let l : Vec F S8x128 .f32 ← Prog.lift (.load lM rL.toLoadRect (View.loadsAt_vmem h_S8x128))
  let wo : Vec F S256x512 .f32 ← Prog.lift (.load woM rWo.toLoadRect (View.loadsAt_vmem h_S256x512))
  let _ : Vec F S2x128x512 .f32 ← Prog.lift (.load oM rX.toLoadRect (View.loadsAt_vmem h_S2x128x512))
  Prog.lift (.store oM rX (k0_pay105 (k0_pay104 a l) wo) Finset.univ (View.stores_vmem_bits_univ h_S2x128x512 rfl) (.inl rfl))

/-- Wait until send number `h` has left, if this device made it. -/
def sentStep (d : Dev nD) (h : Fin 31) : BProg F PUnit :=
  if _h : midW d h.val = 1#1 then do
    Prog.lift (.waitDma2 (sendQ h) (slotM h) kvM (slot_words h) (Memref.isWhole_whole cc0_scratch0).wordExact)
    pure ⟨⟩
  else do pure ⟨⟩

/-! ## Lists of steps -/

/-- The steps of a list one after the other, then `p`. -/
def seq {α : Type} : List (BProg F PUnit) → BProg F α → BProg F α
  | [], p => p
  | s :: l, p => s >>= fun _ => seq l p

theorem seq_bind {α β : Type} (l : List (BProg F PUnit)) (p : BProg F α) (k : α → BProg F β) : seq l p >>= k = seq l (p >>= k) := by
  induction l with
  | nil => rfl
  | cons s l ih => simp only [seq, bind_assoc, ih]

theorem seq_append {α : Type} (l l' : List (BProg F PUnit)) (p : BProg F α) : seq l (seq l' p) = seq (l ++ l') p := by
  induction l with
  | nil => rfl
  | cons s l ih => simp only [seq, List.cons_append, ih]

/-- The steps of hop `h`: wait, forward (every hop but the last), accumulate. -/
def hop (d : Dev nD) (q : FVec F S8x128x64 .bf16) (h : Fin 31) : List (BProg F PUnit) :=
  recvStep d h :: if hh : h.val < 30 then [fwdStep d ⟨h.val, hh⟩, accStep d q h] else [accStep d q h]

/-- The whole body on device `d`. -/
def body (d : Dev nD) : BProg F PUnit :=
  seq ((List.finRange 32).map (sigStep d) ++ [barStep, kvStep, sendStep d]) do
    let x : Vec F S2x128x512 .f32 ← Prog.lift (.load xM rX.toLoadRect (View.loadsAt_vmem h_S2x128x512))
    let wq : Vec F S512x256 .f32 ← Prog.lift (.load wqM rWq.toLoadRect (View.loadsAt_vmem h_S512x256))
    seq (ownStep (k0_pay3 x wq) :: (List.finRange 31).flatMap (hop d (k0_pay3 x wq)) ++ outStep :: (List.finRange 31).map (sentStep d)) (pure ⟨⟩)

end Cert.Chain

end
-- ==== Proof.Contents.lean ====
/-
# The chain of devices and what its buffers hold

Device `c` sends to `nxt c`; the last one, 31, to nobody. Here: which slots are received, sent and forwarded; that the landing buffer is the
disjoint union of its 31 slots; and the contents of the two buffers that take part in the transfers — `kvT c`, the device's own keys and values, and
`commOf c`, the landing buffer whose slot `h` holds the keys and values of device `c - 1 - h`.
-/
module

public import proofs.«01_k».proof.Proof.Steps
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Chain

open Cert.KernelIdeal Cert.KernelIdeal.Gen
open Idealize.ShloMosaic Idealize.ShloMosaic.TcCoe Idealize.SL.Sem

variable {F : FTy → Type} [FloatOps F]

/-! ## The chain -/

set_option backward.proofsInPublic true in
/-- The next device of the chain, closed to a ring at its end. -/
def nxt (c : Dev nD) : Dev nD := ⟨(c.val + 1) % 32, Nat.mod_lt _ (by decide)⟩
set_option backward.proofsInPublic true in
/-- The device before. -/
def prv (c : Dev nD) : Dev nD := ⟨(c.val + 31) % 32, Nat.mod_lt _ (by decide)⟩

theorem prv_nxt (c : Dev nD) : prv (nxt c) = c := by revert c; decide
theorem nxt_prv (c : Dev nD) : nxt (prv c) = c := by revert c; decide
theorem nxt_ne (c : Dev nD) : nxt c ≠ c := by revert c; decide
def ring : Dev nD ≃ Dev nD := ⟨nxt, prv, prv_nxt, nxt_prv⟩

/-- Slot `h` of device `c` receives a block. -/
abbrev actR (c : Dev nD) (h : Fin 31) : Prop := h.val < c.val
/-- Device `c` makes send number `h`. -/
abbrev actS (c : Dev nD) (h : Fin 31) : Prop := actR (nxt c) h
/-- Device `c` forwards slot `h`. -/
abbrev actF (c : Dev nD) (h : Fin 31) : Prop := h.val < c.val ∧ c.val ≤ 30

theorem actS_iff : ∀ (c : Dev nD) (h : Fin 31), actS c h ↔ h.val ≤ c.val ∧ c.val ≤ 30 := by decide +kernel
theorem actF_iff (c : Dev nD) (h : Fin 30) : actS c h.succ ↔ actF c h.castSucc := by
  rw [actS_iff]; show h.val + 1 ≤ c.val ∧ c.val ≤ 30 ↔ h.val < c.val ∧ c.val ≤ 30; omega
theorem not_actF_last (c : Dev nD) (h : Fin 31) (hh : ¬ h.val < 30) : ¬ actF c h := by unfold actF; omega

theorem neW_ne (c t : Dev nD) : neW c t.val = 1#1 ↔ t ≠ c := by
  rw [neW_iff c t]; exact ⟨fun h e => h (by rw [e]), fun h e => h (Fin.ext e.symm)⟩
theorem geW_act (c : Dev nD) (h : Fin 31) : geW c (h.val + 1) = 1#1 ↔ actR c h := geW_iff c ⟨h.val + 1, by omega⟩
theorem midW_act (c : Dev nD) (h : Fin 31) : midW c h.val = 1#1 ↔ actS c h := by rw [midW_iff c ⟨h.val, by omega⟩, actS_iff]
theorem midW_fwd (c : Dev nD) (h : Fin 30) : midW c (h.val + 1) = 1#1 ↔ actS c h.succ := midW_act c h.succ
theorem cond33_act : ∀ c : Dev nD, k0_cond33 c = 1#1 ↔ actS c 0 := by decide +kernel

/-- The device a sending device names is the next one. -/
theorem dev_next (c : Dev nD) (h : Fin 31) (ha : actS c h) (hl : k0_dev33 c < nD) : (⟨k0_dev33 c, hl⟩ : Dev nD) = nxt c := by
  apply Fin.ext
  have := ((actS_iff c h).mp ha).2
  show k0_dev33 c = (c.val + 1) % 32
  rw [k0_dev33_eq, Nat.mod_eq_of_lt (by omega)]

/-- The device whose block lands in slot `h` of device `c`. -/
def src (c : Dev nD) (h : Fin 31) : Dev nD := ⟨c.val - 1 - h.val, by have := c.isLt; omega⟩

theorem src_first (c : Dev nD) (ha : actS c 0) : src (nxt c) 0 = c := by
  have := ((actS_iff c 0).mp ha).2
  apply Fin.ext; show (c.val + 1) % 32 - 1 - 0 = c.val; omega
theorem src_next (c : Dev nD) (h : Fin 30) (ha : actS c h.succ) : src (nxt c) h.succ = src c h.castSucc := by
  have := ((actS_iff c h.succ).mp ha).2
  apply Fin.ext; show (c.val + 1) % 32 - 1 - (h.val + 1) = c.val - 1 - h.val; omega

/-! ## The slots -/

/-- Slot `h` is the positions whose first coordinate is `h`. -/
theorem mem_slot (h : Fin 31) (i : S31x2x8x128x64.Idx) : i ∈ (slotM h).view.set ↔ (i 0).val = h.val := by
  have e : (slotM h).view.set = (Rect.unit (s := S31x2x8x128x64) ![h.val, 0, 0, 0, 0] S1x2x8x128x64.size (inbSlot h)).set := by
    show ((cM.view.slice _).reshape _ _).set = _
    rw [View.set_reshape]; exact View.set_slice_whole _ _
  rw [e, Rect.mem_set_unit]
  constructor
  · intro H; have := H 0; simp only [S1x2x8x128x64, Matrix.cons_val_zero] at this; omega
  · intro H a
    have hi := (i a).isLt
    revert hi H
    match a with
    | 0 => intro H hi; simp only [Matrix.cons_val_zero]; exact ⟨by omega, by show (i 0).val < h.val + 1; omega⟩
    | 1 => intro H hi; exact ⟨Nat.zero_le _, by simpa using hi⟩
    | 2 => intro H hi; exact ⟨Nat.zero_le _, by simpa using hi⟩
    | 3 => intro H hi; exact ⟨Nat.zero_le _, by simpa using hi⟩
    | 4 => intro H hi; exact ⟨Nat.zero_le _, by simpa using hi⟩

theorem slots_disjoint (h h' : Fin 31) (hn : h ≠ h') : Disjoint (slotM h).view.set (slotM h').view.set :=
  Finset.disjoint_left.mpr fun i hi hi' => hn (Fin.ext (((mem_slot h i).mp hi).symm.trans ((mem_slot h' i).mp hi')))

theorem slots_cover : Finset.univ.biUnion (fun h : Fin 31 => (slotM h).view.set) = (Finset.univ : Finset S31x2x8x128x64.Idx) :=
  Finset.eq_univ_iff_forall.mpr fun i => Finset.mem_biUnion.mpr ⟨⟨(i 0).val, (i 0).isLt⟩, Finset.mem_univ _, (mem_slot _ i).mpr rfl⟩

/-- The keys or values of slot `h` lie in slot `h`. -/
theorem half_subset (h : Fin 31) (s : Fin 2) : cM.view.setOn (rC h s).toLoadRect.set ⊆ (slotM h).view.set := by
  intro i hi
  rw [mem_slot]
  have hi' : i ∈ (rC h s).set := by
    obtain ⟨x, hx, e⟩ := Finset.mem_map.mp hi
    have : x = i := e
    exact this ▸ hx
  have := (Rect.mem_set_unit.mp hi') 0
  simp only [S1x1x8x128x64, Matrix.cons_val_zero] at this
  omega

/-! ## The contents -/

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- What the pipeline copies in from the five arguments of device `c`. -/
def xStg (c : Dev nD) : (cc0_stg0_0 : Ref sig .tc).ty.Contents (Elt F) := (win0_0.blk (0 : Fin 1)).view.read (Elt F) ((s₀ m ρ).mem ((c : Thread nD τ).loc main_arg0))
def wqStg (c : Dev nD) : (cc0_stg1_0 : Ref sig .tc).ty.Contents (Elt F) := (win0_1.blk (0 : Fin 1)).view.read (Elt F) ((s₀ m ρ).mem ((c : Thread nD τ).loc main_arg1))
def kStg (c : Dev nD) : (cc0_stg2_0 : Ref sig .tc).ty.Contents (Elt F) := (win0_2.blk (0 : Fin 1)).view.read (Elt F) ((s₀ m ρ).mem ((c : Thread nD τ).loc main_arg2))
def vStg (c : Dev nD) : (cc0_stg3_0 : Ref sig .tc).ty.Contents (Elt F) := (win0_3.blk (0 : Fin 1)).view.read (Elt F) ((s₀ m ρ).mem ((c : Thread nD τ).loc main_arg3))
def woStg (c : Dev nD) : (cc0_stg4_0 : Ref sig .tc).ty.Contents (Elt F) := (win0_4.blk (0 : Fin 1)).view.read (Elt F) ((s₀ m ρ).mem ((c : Thread nD τ).loc main_arg4))

/-- The buffer that is sent after keys `k` and values `v` are put in it over `f`. -/
def kvPut (k : Vec F S2x128x4x64 .f32) (v : Vec F S2x128x4x64 .f32) (f : (cc0_scratch0 : Ref sig .tc).ty.Contents (Elt F)) : (cc0_scratch0 : Ref sig .tc).ty.Contents (Elt F) :=
  (kvM.access rK1).write (Elt F) ((kvM.access rK0).write (Elt F) f (k0_pay1 k) Finset.univ) (k0_pay2 v) Finset.univ

theorem mem_half (s : Fin 2) (hb) (i : S2x8x128x64.Idx) : i ∈ (kvM.access (Rect.unit (s := S2x8x128x64) ![s.val, 0, 0, 0] S1x8x128x64.size hb)).setOn Finset.univ ↔ (i 0).val = s.val := by
  have e : (kvM.access (Rect.unit (s := S2x8x128x64) ![s.val, 0, 0, 0] S1x8x128x64.size hb)).setOn Finset.univ = (Rect.unit (s := S2x8x128x64) ![s.val, 0, 0, 0] S1x8x128x64.size hb).set :=
    View.set_slice_whole _ _
  rw [e, Rect.mem_set_unit]
  constructor
  · intro H; have := H 0; simp only [S1x8x128x64, Matrix.cons_val_zero] at this; omega
  · intro H a
    have hi := (i a).isLt
    revert hi H
    match a with
    | 0 => intro H hi; simp only [Matrix.cons_val_zero]; exact ⟨by omega, by show (i 0).val < s.val + 1; omega⟩
    | 1 => intro H hi; exact ⟨Nat.zero_le _, by simpa using hi⟩
    | 2 => intro H hi; exact ⟨Nat.zero_le _, by simpa using hi⟩
    | 3 => intro H hi; exact ⟨Nat.zero_le _, by simpa using hi⟩

/-- The two halves cover the buffer, so nothing is left of what was there. -/
theorem kvPut_base (k v : Vec F S2x128x4x64 .f32) (f g : (cc0_scratch0 : Ref sig .tc).ty.Contents (Elt F)) : kvPut k v f = kvPut k v g := by
  funext i
  refine View.write_congr (fun _ _ _ => rfl) fun hi => View.write_congr (fun _ _ _ => rfl) fun hi' => ?_
  exfalso
  have h1 : ¬ (i 0).val = 1 := fun e => hi ((mem_half 1 _ i).mpr e)
  have h0 : ¬ (i 0).val = 0 := fun e => hi' ((mem_half 0 _ i).mpr e)
  have := (i 0).isLt
  have h2 : (i 0).val < 2 := this
  omega

/-- The keys and values of device `c`, as it sends them. -/
def kvT (c : Dev nD) : (cc0_scratch0 : Ref sig .tc).ty.Contents (Elt F) :=
  kvPut (kStg m ρ c) (vStg m ρ c) ((s₀ m ρ).mem ((c : Thread nD τ).loc cc0_scratch0))

/-- The landing buffer of device `c` when every slot has landed. -/
def commOf (c : Dev nD) : (cc0_scratch1 : Ref sig .tc).ty.Contents (Elt F) := fun i =>
  (slotM ⟨(i 0).val, (i 0).isLt⟩).view.write (Elt F) ((s₀ m ρ).mem ((c : Thread nD τ).loc cc0_scratch1))
    (kvM.view.read (Elt F) (kvT m ρ (src c ⟨(i 0).val, (i 0).isLt⟩))) Finset.univ i

theorem commOf_slot (c : Dev nD) (h : Fin 31) (i : S31x2x8x128x64.Idx) (hi : i ∈ (slotM h).view.set) (fd : (cc0_scratch1 : Ref sig .tc).ty.Contents (Elt F)) :
    (slotM h).view.write (Elt F) fd (kvM.view.read (Elt F) (kvT m ρ (src c h))) Finset.univ i = commOf m ρ c i := by
  have e : (⟨(i 0).val, (i 0).isLt⟩ : Fin 31) = h := Fin.ext ((mem_slot h i).mp hi)
  unfold commOf
  rw [e]
  exact View.write_congr (fun _ _ _ => rfl) fun hn => absurd hi hn

/-- Slot `h` reads the block of the device it comes from. -/
theorem read_commOf (c : Dev nD) (h : Fin 31) : (slotM h).view.read (Elt F) (commOf m ρ c) = kvM.view.read (Elt F) (kvT m ρ (src c h)) := by
  rw [View.read_congr (g := (slotM h).view.write (Elt F) (commOf m ρ c) (kvM.view.read (Elt F) (kvT m ρ (src c h))) Finset.univ)
    fun i hi => (commOf_slot m ρ c h i hi _).symm]
  exact View.read_write_univ _ _

end Cert.Chain

end
-- ==== Proof.Loop.lean ====
/-
# Running a list of steps

`all l R` is the separating conjunction of `R i` over the list `l`. `wp_loop` runs the steps of a list one after the other from the rule of one
step. A resource that only some steps have is `whenP p X`: `X` if `p`, else nothing.
-/
module

public import proofs.«01_k».proof.Proof.Contents

@[expose] public section

noncomputable section

namespace Cert.Chain

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the chain's, whose duties are named by devices -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Conditional resources -/

/-- `X` if `p` holds, else nothing. -/
def whenP (p : Prop) [Decidable p] (X : sProp 𝕄) : sProp 𝕄 := if p then X else iprop(emp)

omit [FloatOps F] in
theorem whenP_pos {p : Prop} [Decidable p] (h : p) (X : sProp 𝕄) : whenP p X = X := if_pos h
omit [FloatOps F] in
theorem whenP_neg {p : Prop} [Decidable p] (h : ¬ p) (X : sProp 𝕄) : whenP p X = iprop(emp) := if_neg h
omit [FloatOps F] in
theorem whenP_congr {p q : Prop} [Decidable p] [Decidable q] (h : p ↔ q) (X : sProp 𝕄) : whenP p X = whenP q X := by
  by_cases hp : p
  · rw [whenP_pos hp, whenP_pos (h.mp hp)]
  · rw [whenP_neg hp, whenP_neg (mt h.mpr hp)]

instance whenP_storable (p : Prop) [Decidable p] (X : sProp 𝕄) [BI.Storable (upEmb : UEmb _ 𝕄) X] : BI.Storable (upEmb : UEmb _ 𝕄) (whenP p X) := by
  unfold whenP; split <;> infer_instance

/-! ## Conjunction over a list -/

/-- `R i` for every `i` of the list. -/
def all {ι : Type} : List ι → (ι → sProp 𝕄) → sProp 𝕄
  | [], _ => iprop(emp)
  | i :: l, R => iprop(R i ∗ all l R)

omit [FloatOps F] in
theorem all_nil {ι : Type} (R : ι → sProp 𝕄) : all [] R = iprop(emp) := rfl
omit [FloatOps F] in
theorem all_cons {ι : Type} (i : ι) (l : List ι) (R : ι → sProp 𝕄) : all (i :: l) R = iprop(R i ∗ all l R) := rfl

omit [FloatOps F] in
/-- Over the numbers below `n` it is the library's conjunction. -/
theorem bigSep_all {ι : Type} [DecidableEq ι] (l : List ι) (hl : l.Nodup) (R : ι → sProp 𝕄) : bigSep l.toFinset R = all l R := by
  induction l with
  | nil => rw [List.toFinset_nil, bigSep_empty]; rfl
  | cons i l ih =>
    rw [List.toFinset_cons, bigSep_insert (by rw [List.mem_toFinset]; exact (List.nodup_cons.mp hl).1), ih (List.nodup_cons.mp hl).2]
    rfl

omit [FloatOps F] in
theorem bigSep_fin (n : ℕ) (R : Fin n → sProp 𝕄) : bigSep Finset.univ R = all (List.finRange n) R := by
  rw [← bigSep_all _ (List.nodup_finRange n), List.toFinset_finRange]

omit [FloatOps F] in
theorem all_mono {ι : Type} (l : List ι) (R S : ι → sProp 𝕄) (h : ∀ i, R i ⊢ S i) : all l R ⊢ all l S := by
  induction l with
  | nil => exact BI.Entails.refl _
  | cons i l ih =>
    rw [all_cons, all_cons]
    iintro ⟨Hi, Hl⟩
    isplitl [Hi]; · iapply (h i); iexact Hi
    iapply ih; iexact Hl

omit [FloatOps F] in
theorem all_sep {ι : Type} (l : List ι) (R S : ι → sProp 𝕄) : iprop(all l R ∗ all l S) ⊢ all l (fun i => iprop(R i ∗ S i)) := by
  induction l with
  | nil => simp only [all_nil]; iintro ⟨-, -⟩; iempintro
  | cons i l ih =>
    simp only [all_cons]
    iintro ⟨⟨Ha, Hl⟩, Hb, Hm⟩
    isplitl [Ha Hb]
    · isplitl [Ha]; · iexact Ha
      iexact Hb
    iapply ih
    isplitl [Hl]; · iexact Hl
    iexact Hm

omit [FloatOps F] in
theorem all_map {ι κ : Type} (f : κ → ι) (l : List κ) (R : ι → sProp 𝕄) : all (l.map f) R = all l (fun k => R (f k)) := by
  induction l with
  | nil => rfl
  | cons i l ih => rw [List.map_cons, all_cons, all_cons, ih]

omit [FloatOps F] in
theorem all_append {ι : Type} (l l' : List ι) (R : ι → sProp 𝕄) : all (l ++ l') R ⊣⊢ iprop(all l R ∗ all l' R) := by
  induction l with
  | nil =>
    rw [List.nil_append, all_nil]
    constructor
    · iintro H; isplitr; · iempintro
      iexact H
    · iintro ⟨-, H⟩; iexact H
  | cons i l ih =>
    rw [List.cons_append, all_cons, all_cons]
    constructor
    · iintro ⟨Hi, H⟩
      ihave H := ih.1 $$ H
      icases H with ⟨H1, H2⟩
      isplitr [H2]
      · isplitl [Hi]; · iexact Hi
        iexact H1
      iexact H2
    · iintro ⟨⟨Hi, H1⟩, H2⟩
      isplitl [Hi]; · iexact Hi
      iapply ih.2
      isplitl [H1]; · iexact H1
      iexact H2

/-- What the hop number `h` needs of a family that is numbered by sends: its member `h + 1`, nothing at the last hop. -/
def after1 (T : Fin 31 → sProp 𝕄) (h : Fin 31) : sProp 𝕄 := if hh : h.val < 30 then T ⟨h.val + 1, by omega⟩ else iprop(emp)

omit [FloatOps F] in
/-- A family over the 31 sends is its first member and what the hops need. -/
theorem all_shift (T : Fin 31 → sProp 𝕄) : all (List.finRange 31) T ⊣⊢ iprop(T 0 ∗ all (List.finRange 31) (after1 T)) := by
  have e1 : all (List.finRange 31) T = iprop(T 0 ∗ all (List.finRange 30) (fun h => T h.succ)) := by
    rw [List.finRange_succ, all_cons, all_map]
  have e3 : all (List.finRange 30 |>.map Fin.castSucc) (after1 T) = all (List.finRange 30) (fun h => T h.succ) := by
    rw [all_map]; congr 1; funext h
    unfold after1; rw [dif_pos (show h.castSucc.val < 30 from h.isLt)]; rfl
  have e4 : after1 T (Fin.last 30) = iprop(emp) := dif_neg (by decide)
  rw [e1]
  constructor
  · iintro ⟨H0, H⟩
    isplitl [H0]; · iexact H0
    rw [List.finRange_succ_last (n := 30)]
    iapply (all_append _ _ _).2
    rw [e3, all_cons, all_nil, e4]
    isplitl [H]; · iexact H
    isplitl <;> iempintro
  · iintro ⟨H0, H⟩
    isplitl [H0]; · iexact H0
    rw [List.finRange_succ_last (n := 30)]
    ihave H := (all_append _ _ _).1 $$ H
    rw [e3]
    icases H with ⟨H, -⟩
    iexact H

/-! ## The loop -/

abbrev 𝒱₀ : Variants := Variants.none

/-- The kernel's weakest precondition on device `c`. -/
abbrev WP (c : Dev nD) {α : Type} (p : BProg F α) (Q : α → sProp 𝕄) : sProp 𝕄 := wp frame (wpE (defs₀ (F := F)) 𝒱₀ (c : Thread nD τ) none) Set.univ p Q

/-- The rule of a list of steps from the rule of one: `P` is kept throughout, `J l s` is what holds before the steps `l` in state `s`, step `i` turns
    `R i` into `Q i` and the state `s` into `next i s`. The list is sorted by `<`. -/
theorem wp_loop {n : ℕ} {σ : Type} (c : Dev nD) (P : sProp 𝕄) [BI.Persistent P] (step : Fin n → BProg F PUnit) (next : Fin n → σ → σ)
    (J : List (Fin n) → σ → sProp 𝕄) (R Q : Fin n → sProp 𝕄)
    (hstep : ∀ (i : Fin n) (l : List (Fin n)) (s : σ) (Ψ : PUnit → sProp 𝕄), (∀ j ∈ l, i < j) →
      iprop(P ∗ J (i :: l) s ∗ R i ∗ (J l (next i s) ∗ Q i -∗ Ψ ⟨⟩)) ⊢ WP c (step i) Ψ)
    {α : Type} (p : BProg F α) (Ψ : α → sProp 𝕄) :
    ∀ (l : List (Fin n)) (_ : l.Pairwise (· < ·)) (s : σ),
      iprop(P ∗ J l s ∗ all l R ∗ (J [] (l.foldl (fun s i => next i s) s) ∗ all l Q -∗ WP c p Ψ)) ⊢ WP c (seq (l.map step) p) Ψ
  | [], _, s => by
    show _ ⊢ WP c p Ψ
    rw [all_nil, all_nil, List.foldl_nil]
    iintro ⟨-, HJ, -, Hk⟩
    iapply Hk
    isplitl [HJ]; · iexact HJ
    iempintro
  | i :: l, hl, s => by
    rw [List.map_cons, all_cons, all_cons, List.foldl_cons]
    show _ ⊢ WP c (step i >>= fun _ => seq (l.map step) p) Ψ
    unfold WP
    rw [wp_bind]
    iintro ⟨#HP, HJ, ⟨HR, Hl⟩, Hk⟩
    iapply (hstep i l s _ (fun j hj => (List.pairwise_cons.mp hl).1 j hj))
    isplitr; · iexact HP
    isplitl [HJ]; · iexact HJ
    isplitl [HR]; · iexact HR
    iintro ⟨HJ, HQ⟩
    iapply (wp_loop c P step next J R Q hstep p Ψ l (List.pairwise_cons.mp hl).2 (next i s))
    isplitr; · iexact HP
    isplitl [HJ]; · iexact HJ
    isplitl [Hl]; · iexact Hl
    iintro ⟨HJ, HQl⟩
    iapply Hk
    isplitl [HJ]; · iexact HJ
    isplitl [HQ]; · iexact HQ
    iexact HQl

theorem finRange_sorted (n : ℕ) : (List.finRange n).Pairwise (· < ·) := List.pairwise_lt_finRange n

end Cert.Chain

end
-- ==== Proof.Protocol.lean ====
/-
# The protocol: cells, duties, payloads, debts, levels

Each device has a barrier cell, 31 send cells and 31 receive cells, all used in round 0 only.
* The barrier cell of `t` has one duty per other device. The duty of `nxt t` hands over the slots of `nxt t` that receive a block, so that `t` may
  write them; the other duties hand over nothing.
* The receive cell `h` of a device that receives in slot `h` has one duty, which hands over the slot, landed.
* The send cell `h` of a device that makes send `h` has one duty, which hands back half a share of what was sent.
-/
module

public import proofs.«01_k».proof.Proof.Loop

@[expose] public section

noncomputable section

namespace Cert.Chain

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The cells -/

/-- A cell of a device: `none` its barrier, `some (false, h)` its send cell `h`, `some (true, h)` its receive cell `h`. -/
abbrev Kd : Type := Option (Bool × Fin 31)

/-- The semaphores the kernel's scope holds. -/
abbrev osem (k : Bool × Fin 31) : SemLoc sig := if k.1 then .dma (recvQ k.2) else .dma (sendQ k.2)
abbrev csem (k : Kd) : SemLoc sig := match k with
  | none => .reg barS
  | some k => osem k
abbrev kcell (ck : Dev nD × Kd) : GSem nD τ sig := ((ck.1 : Thread nD τ), csem ck.2)
abbrev barCell (c : Dev nD) : GSem nD τ sig := ((c : Thread nD τ), .reg barS)
abbrev sendCell (c : Dev nD) (h : Fin 31) : GSem nD τ sig := ((c : Thread nD τ), .dma (sendQ h))
abbrev recvCell (c : Dev nD) (h : Fin 31) : GSem nD τ sig := ((c : Thread nD τ), .dma (recvQ h))

/-- Which cell a DMA semaphore is. -/
def decDma (q : DmaSem sig) : Option Kd :=
  if h : 6 ≤ q.val ∧ q.val < 37 then some (some (false, ⟨q.val - 6, by omega⟩))
  else if h' : 37 ≤ q.val ∧ q.val < 68 then some (some (true, ⟨q.val - 37, by omega⟩)) else none
/-- Whether a semaphore is the barrier's. -/
def decReg (r : Sem sig) : Option Kd := if r = barS then some none else none
/-- Which cell a semaphore is. -/
def dec (s : SemLoc sig) : Option Kd := match s with
  | .reg r => decReg r
  | .dma q => decDma q

theorem sendQ_val : ∀ h : Fin 31, (sendQ h).val = 6 + h.val := by decide
theorem recvQ_val : ∀ h : Fin 31, (recvQ h).val = 37 + h.val := by decide
theorem dec_bar : dec (.reg barS) = some none := by show decReg barS = some none; exact if_pos rfl
theorem dec_send (h : Fin 31) : dec (.dma (sendQ h)) = some (some (false, h)) := by
  have := sendQ_val h
  show decDma (sendQ h) = _
  unfold decDma; rw [dif_pos (by omega)]
  congr 3; exact Fin.ext (by simp only [this]; omega)
theorem dec_recv (h : Fin 31) : dec (.dma (recvQ h)) = some (some (true, h)) := by
  have := recvQ_val h
  show decDma (recvQ h) = _
  unfold decDma; rw [dif_neg (by omega), dif_pos (by omega)]
  congr 3; exact Fin.ext (by simp only [this]; omega)
theorem dec_csem (k : Kd) : dec (csem k) = some k := match k with
  | none => dec_bar
  | some (false, h) => dec_send h
  | some (true, h) => dec_recv h
theorem csem_inj : Function.Injective csem := fun a b e => Option.some.inj ((dec_csem a).symm.trans ((congrArg dec e).trans (dec_csem b)))
theorem ownSemFacts : Pipeline.OwnSemFacts cfg0.spec osem := by decide

/-- What one transfer of a block counts. -/
abbrev N : ℕ := (kvM : Memref sig .tc .vmem S2x8x128x64 .bf16).view.dmaCredit
theorem N_pos : 0 < N := View.dmaCredit_pos _ (by decide)

/-! ## The resources that travel -/

variable (m : (ℓ : Loc nD τ sig) → Buf (Elt F) ℓ) (ρ : Dev nD → PrngReg)

/-- Share `q` of slot `h` of device `c`, holding `f`. -/
def slotPts (c : Dev nD) (h : Fin 31) (q : PosShare TreeShare) (f : (cc0_scratch1 : Ref sig .tc).ty.Contents (Elt F)) : sProp 𝕄 :=
  (slotM h).view.loc (c : Thread nD τ) ↦[(slotM h).view.set]{q} f
/-- Share `q` of device `c`'s own keys and values, holding `f`. -/
def kvPts (c : Dev nD) (q : PosShare TreeShare) (f : (cc0_scratch0 : Ref sig .tc).ty.Contents (Elt F)) : sProp 𝕄 :=
  kvM.view.loc (c : Thread nD τ) ↦[kvM.view.set]{q} f
/-- What send number `h` reads. -/
def srcPts (c : Dev nD) (h : Fin 31) (q : PosShare TreeShare) : sProp 𝕄 :=
  Fin.cases (n := 30) (motive := fun _ => sProp 𝕄) (kvPts c q (kvT m ρ c)) (fun h => slotPts c h.castSucc q (commOf m ρ c)) h
/-- The slots of device `c` that receive a block, whatever they hold. -/
def gave (c : Dev nD) : sProp 𝕄 := all (List.finRange 31) fun h => whenP (actR c h) iprop(∃ f, slotPts c h fullShare f)

omit [FloatOps F] in
instance slotPts_storable (c : Dev nD) (h : Fin 31) (q f) : BI.Storable (upEmb : UEmb _ 𝕄) (slotPts (F := F) c h q f) := by unfold slotPts; infer_instance
omit [FloatOps F] in
instance kvPts_storable (c : Dev nD) (q f) : BI.Storable (upEmb : UEmb _ 𝕄) (kvPts (F := F) c q f) := by unfold kvPts; infer_instance
instance srcPts_storable (c : Dev nD) (h : Fin 31) (q) : BI.Storable (upEmb : UEmb _ 𝕄) (srcPts (F := F) m ρ c h q) := by
  unfold srcPts
  refine Fin.cases ?_ (fun h => ?_) h
  · exact kvPts_storable c q _
  · exact slotPts_storable c h.castSucc q _
instance all_storable {ι : Type} (l : List ι) (R : ι → sProp 𝕄) [∀ i, BI.Storable (upEmb : UEmb _ 𝕄) (R i)] : BI.Storable (upEmb : UEmb _ 𝕄) (all l R) := by
  induction l with
  | nil => rw [all_nil]; infer_instance
  | cons i l ih => rw [all_cons]; infer_instance
omit [FloatOps F] in
instance gave_storable (c : Dev nD) : BI.Storable (upEmb : UEmb _ 𝕄) (gave (F := F) c) := by unfold gave; infer_instance

/-! ## The schedule -/

/-- The duties of a cell. -/
def dutiesK (c : Dev nD) (k : Kd) : Finset (Dev nD) := match k with
  | none => Finset.univ.erase c
  | some (false, h) => if actS c h then {0} else ∅
  | some (true, h) => if actR c h then {0} else ∅
/-- What the duty `d` of a cell hands over. -/
def payK (c : Dev nD) (k : Kd) (d : Dev nD) : sProp 𝕄 := match k with
  | none => whenP (d = nxt c) (gave d)
  | some (false, h) => srcPts m ρ c h fullShare.left
  | some (true, h) => slotPts c h fullShare (commOf m ρ c)

instance payK_storable (c : Dev nD) (k : Kd) (d : Dev nD) : BI.Storable (upEmb : UEmb _ 𝕄) (payK (F := F) m ρ c k d) := by
  unfold payK; split <;> infer_instance

def rd : Rounds.Schedule (GSem nD τ sig) (Dev nD) 𝕄 where
  duties g r := if r = 0 ∧ g.1.2 = .tc then (match dec g.2 with | some k => dutiesK g.1.1 k | none => ∅) else ∅
  unitless _ := False
  amount g _ _ := if g.2 = .reg barS then 1 else N
  payload g _ d := match dec g.2 with | some k => payK m ρ g.1.1 k d | none => iprop(emp)
  amount_pos g _ _ _ := by
    by_cases h : g.2 = .reg barS
    · rw [if_pos h]; exact Nat.one_pos
    · rw [if_neg h]; exact N_pos

instance rd_storable (g : GSem nD τ sig) (r : ℕ) (d : Dev nD) : BI.Storable (upEmb : UEmb _ 𝕄) ((rd (F := F) m ρ).payload g r d) := by
  show BI.Storable upEmb (match dec g.2 with | some k => payK m ρ g.1.1 k d | none => iprop(emp))
  split <;> infer_instance

theorem duties_eq (c : Dev nD) (k : Kd) : (rd (F := F) m ρ).duties (kcell (c, k)) 0 = dutiesK c k := by
  dsimp only [rd]; rw [if_pos ⟨rfl, rfl⟩, dec_csem]
theorem payload_eq (c : Dev nD) (k : Kd) (d : Dev nD) : (rd (F := F) m ρ).payload (kcell (c, k)) 0 d = payK m ρ c k d := by
  dsimp only [rd]; rw [dec_csem]
theorem duties_later (g : GSem nD τ sig) : ∀ r, 1 ≤ r → (rd (F := F) m ρ).duties g r = ∅ :=
  fun r hr => by dsimp only [rd]; rw [if_neg fun h => by omega]
theorem amount_bar (c d : Dev nD) : (rd (F := F) m ρ).amount (kcell (c, none)) 0 d = 1 := by dsimp only [rd]; exact if_pos rfl
theorem amount_own (c : Dev nD) (k : Bool × Fin 31) (d : Dev nD) : (rd (F := F) m ρ).amount (kcell (c, some k)) 0 d = N := by
  dsimp only [rd]
  exact if_neg fun e => by have := csem_inj (a₁ := some k) (a₂ := none) e; cases this

theorem expect_bar (c : Dev nD) : (rd (F := F) m ρ).expect (kcell (c, none)) 0 = 31 := by
  unfold Schedule.expect Schedule.amountOf
  rw [duties_eq, Finset.sum_congr rfl fun d _ => amount_bar m ρ c d, Finset.sum_const]
  show (Finset.univ.erase c).card • 1 = 31
  rw [Finset.card_erase_of_mem (Finset.mem_univ _)]; rfl
/-- A send or receive cell in use has the one duty `0`. -/
theorem dutiesK_own (c : Dev nD) (k : Bool × Fin 31) (ha : if k.1 then actR c k.2 else actS c k.2) : dutiesK c (some k) = {0} := by
  obtain ⟨b, h⟩ := k
  cases b
  · exact if_pos (by simpa using ha)
  · exact if_pos (by simpa using ha)
theorem dutiesK_idle (c : Dev nD) (k : Bool × Fin 31) (ha : ¬ if k.1 then actR c k.2 else actS c k.2) : dutiesK c (some k) = ∅ := by
  obtain ⟨b, h⟩ := k
  cases b
  · exact if_neg (by simpa using ha)
  · exact if_neg (by simpa using ha)
theorem expect_own (c : Dev nD) (k : Bool × Fin 31) (ha : if k.1 then actR c k.2 else actS c k.2) : (rd (F := F) m ρ).expect (kcell (c, some k)) 0 = N := by
  unfold Schedule.expect Schedule.amountOf; rw [duties_eq, dutiesK_own c k ha, Finset.sum_singleton, amount_own]

/-- What a send or receive cell's round hands over. -/
theorem rest_own (c : Dev nD) (k : Bool × Fin 31) (ha : if k.1 then actR c k.2 else actS c k.2) :
    bigSep ((rd (F := F) m ρ).duties (kcell (c, some k)) 0 \ ∅) (fun d => (rd (F := F) m ρ).payload (kcell (c, some k)) 0 d) = payK m ρ c (some k) 0 := by
  rw [Finset.sdiff_empty, duties_eq, dutiesK_own c k ha, bigSep_singleton, payload_eq]
/-- What the barrier hands over: the next device's slots. -/
theorem rest_bar (c : Dev nD) :
    bigSep ((rd (F := F) m ρ).duties (kcell (c, none)) 0 \ ∅) (fun d => (rd (F := F) m ρ).payload (kcell (c, none)) 0 d) ⊢ gave (nxt c) := by
  have hm : nxt c ∈ (rd (F := F) m ρ).duties (kcell (c, none)) 0 \ ∅ := by
    rw [Finset.sdiff_empty, duties_eq]; exact Finset.mem_erase.mpr ⟨nxt_ne c, Finset.mem_univ _⟩
  refine (bigSep_elim hm).trans ?_
  rw [payload_eq]
  show whenP (nxt c = nxt c) (gave (nxt c)) ⊢ _
  rw [whenP_pos rfl]

/-! The same at the three kinds of cell. -/

theorem mem_duties_bar (c d : Dev nD) (h : d ≠ c) : d ∈ (rd (F := F) m ρ).duties (barCell c) 0 := by
  rw [duties_eq m ρ c none]; exact Finset.mem_erase.mpr ⟨h, Finset.mem_univ _⟩
theorem mem_duties_send (c : Dev nD) (h : Fin 31) (ha : actS c h) : (0 : Dev nD) ∈ (rd (F := F) m ρ).duties (sendCell c h) 0 := by
  show _ ∈ (rd (F := F) m ρ).duties (kcell (c, some (false, h))) 0
  rw [duties_eq, dutiesK_own c (false, h) ha]; exact Finset.mem_singleton_self _
theorem mem_duties_recv (c : Dev nD) (h : Fin 31) (ha : actR c h) : (0 : Dev nD) ∈ (rd (F := F) m ρ).duties (recvCell c h) 0 := by
  show _ ∈ (rd (F := F) m ρ).duties (kcell (c, some (true, h))) 0
  rw [duties_eq, dutiesK_own c (true, h) ha]; exact Finset.mem_singleton_self _
theorem payload_bar (c d : Dev nD) : (rd (F := F) m ρ).payload (barCell c) 0 d = whenP (d = nxt c) (gave d) := payload_eq m ρ c none d
theorem payload_send (c : Dev nD) (h : Fin 31) (d : Dev nD) : (rd (F := F) m ρ).payload (sendCell c h) 0 d = srcPts m ρ c h fullShare.left := payload_eq m ρ c (some (false, h)) d
theorem payload_recv (c : Dev nD) (h : Fin 31) (d : Dev nD) : (rd (F := F) m ρ).payload (recvCell c h) 0 d = slotPts c h fullShare (commOf m ρ c) := payload_eq m ρ c (some (true, h)) d
theorem rest_send (c : Dev nD) (h : Fin 31) (ha : actS c h) :
    bigSep ((rd (F := F) m ρ).duties (sendCell c h) 0 \ ∅) (fun d => (rd (F := F) m ρ).payload (sendCell c h) 0 d) = srcPts m ρ c h fullShare.left := rest_own m ρ c (false, h) ha
theorem rest_recv (c : Dev nD) (h : Fin 31) (ha : actR c h) :
    bigSep ((rd (F := F) m ρ).duties (recvCell c h) 0 \ ∅) (fun d => (rd (F := F) m ρ).payload (recvCell c h) 0 d) = slotPts c h fullShare (commOf m ρ c) := rest_own m ρ c (true, h) ha
theorem amount_send (c : Dev nD) (h : Fin 31) (d : Dev nD) : (rd (F := F) m ρ).amount (sendCell c h) 0 d = N := amount_own m ρ c (false, h) d
theorem amount_recv (c : Dev nD) (h : Fin 31) (d : Dev nD) : (rd (F := F) m ρ).amount (recvCell c h) 0 d = N := amount_own m ρ c (true, h) d
theorem expect_send (c : Dev nD) (h : Fin 31) (ha : actS c h) : (rd (F := F) m ρ).expect (sendCell c h) 0 = N := expect_own m ρ c (false, h) ha
theorem expect_recv (c : Dev nD) (h : Fin 31) (ha : actR c h) : (rd (F := F) m ρ).expect (recvCell c h) 0 = N := expect_own m ρ c (true, h) ha
/-- A transfer into a slot counts as much. -/
theorem slot_amount (h : Fin 31) (s : SemLoc sig) (hs : ∃ q, s = .dma q) : (slotM h).view.amount s = N := by
  obtain ⟨q, rfl⟩ := hs; rfl

/-! ## What each device owes -/

/-- To device `t`'s barrier. -/
def barO (c t : Dev nD) : CellTallies nD τ sig Unit := if t = c then 0 else tallyAt (barCell t) () 1
/-- To the next device's receive cell `h`. -/
def recvO (c : Dev nD) (h : Fin 31) : CellTallies nD τ sig Unit := if actS c h then tallyAt (recvCell (nxt c) h) () N else 0
/-- What is paid during hop `h`. -/
def hopO (c : Dev nD) (h : Fin 31) : CellTallies nD τ sig Unit := if hh : h.val < 30 then recvO c ⟨h.val + 1, by omega⟩ else 0
/-- What is paid during the hops of a list. -/
def hopsO (c : Dev nD) (l : List (Fin 31)) : CellTallies nD τ sig Unit := (l.map (hopO c)).sum
/-- What is owed before the signals of a list. -/
def sigsO (c : Dev nD) (l : List (Fin 32)) : CellTallies nD τ sig Unit := (l.map (barO c)).sum + (recvO c 0 + hopsO c (List.finRange 31))
def O₀ (c : Dev nD) : CellTallies nD τ sig Unit := sigsO c (List.finRange 32)

theorem sum_pos {ι : Type} (l : List ι) (f : ι → CellTallies nD τ sig Unit) {g : GSem nD τ sig} {u : Unit} (h : 0 < (l.map f).sum g u) : ∃ i ∈ l, 0 < f i g u := by
  induction l with
  | nil => exact absurd h (Nat.lt_irrefl 0)
  | cons i l ih =>
    rw [List.map_cons, List.sum_cons, Pi.add_apply, Finsupp.add_apply] at h
    by_cases hi : 0 < f i g u
    · exact ⟨i, List.mem_cons_self, hi⟩
    · obtain ⟨j, hj, h'⟩ := ih (by omega)
      exact ⟨j, List.mem_cons_of_mem _ hj, h'⟩

theorem tally_pos {g g' : GSem nD τ sig} {u : Unit} {k : ℕ} (h : 0 < tallyAt (Ix := Unit) g' () k g u) : g = g' := by
  rw [tallyAt_apply] at h
  by_contra hn
  rw [if_neg fun e => hn e.1] at h
  exact Nat.lt_irrefl 0 h

theorem barO_pos {c t : Dev nD} {g : GSem nD τ sig} {u : Unit} (h : 0 < barO c t g u) : g = barCell t := by
  unfold barO at h
  split at h
  · exact absurd h (Nat.lt_irrefl 0)
  · exact tally_pos h
theorem recvO_pos {c : Dev nD} {i : Fin 31} {g : GSem nD τ sig} {u : Unit} (h : 0 < recvO c i g u) : g = recvCell (nxt c) i := by
  unfold recvO at h
  split at h
  · exact tally_pos h
  · exact absurd h (Nat.lt_irrefl 0)
theorem hopsO_pos {c : Dev nD} {l : List (Fin 31)} {g : GSem nD τ sig} {u : Unit} (h : 0 < hopsO c l g u) :
    ∃ i ∈ l, ∃ j : Fin 31, j.val = i.val + 1 ∧ g = recvCell (nxt c) j := by
  obtain ⟨i, hi, h⟩ := sum_pos l _ h
  unfold hopO at h
  split at h
  · exact ⟨i, hi, _, rfl, recvO_pos h⟩
  · exact absurd h (Nat.lt_irrefl 0)

/-! ## The levels: a wait is below everything owed at it -/

def L (g : GSem nD τ sig) : Finset Unit := if g.1.2 = .tc then {()} else ∅
/-- Barrier cells at 1, the receive cell `h` at `h + 2`, everything else at 0. -/
def lv (g : GSem nD τ sig) (_ : Unit) : ℕ := match dec g.2 with
  | some none => 1
  | some (some (true, h)) => h.val + 2
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by unfold lv; rw [dec_bar]
theorem lv_recv (c : Dev nD) (h : Fin 31) : lv (recvCell c h) () = h.val + 2 := by unfold lv; rw [dec_recv]
theorem lv_send (c : Dev nD) (h : Fin 31) : lv (sendCell c h) () = 0 := by unfold lv; rw [dec_send]
theorem lv_stage (c : Dev nD) (q : DmaSem sig) (hq : q.val < 6) : lv ((c : Thread nD τ), .dma q) () = 0 := by
  have e : dec (.dma q) = none := by show decDma q = none; unfold decDma; rw [dif_neg (by omega), dif_neg (by omega)]
  unfold lv; rw [e]

/-- The levels' rule: a device may wait on a cell of level at most `n` while all it owes is to device cells above `n`. -/
theorem mayWait_of (c : Dev nD) (sm : SemLoc sig) (O : CellTallies nD τ sig Unit) (n : ℕ) (hl : lv ((c : Thread nD τ), sm) () ≤ n)
    (hO : ∀ g u, 0 < O g u → g.1.2 = .tc ∧ n < lv g ()) : (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hl)
    (fun g u hg => (hO g u hg).2)

theorem mayWait_bar (c : Dev nD) : (levAts L lv : sProp 𝕄) ⊢ MayWait (c : Thread nD τ) (.reg barS) () (recvO c 0 + hopsO c (List.finRange 31)) :=
  mayWait_of c _ _ 1 (le_of_eq (lv_bar c)) fun g u hg => by
    rw [Pi.add_apply, Finsupp.add_apply] at hg
    rcases Nat.add_pos_iff_pos_or_pos.mp hg with h | h
    · rw [recvO_pos h]; exact ⟨rfl, by rw [lv_recv]; omega⟩
    · obtain ⟨i, -, j, hj, rfl⟩ := hopsO_pos h
      exact ⟨rfl, by rw [lv_recv]; omega⟩
theorem mayWait_recv (c : Dev nD) (h : Fin 31) (l : List (Fin 31)) (hl : ∀ j ∈ l, h < j) :
    (levAts L lv : sProp 𝕄) ⊢ MayWait (c : Thread nD τ) (.dma (recvQ h)) () (hopsO c (h :: l)) :=
  mayWait_of c _ _ (h.val + 2) (le_of_eq (lv_recv c h)) fun g u hg => by
    obtain ⟨i, hi, j, hj, rfl⟩ := hopsO_pos hg
    refine ⟨rfl, ?_⟩
    rw [lv_recv]
    rcases List.mem_cons.mp hi with rfl | hi
    · omega
    · have : h.val < i.val := hl i hi
      omega
theorem mayWait_stage (c : Dev nD) (q : DmaSem sig) (hq : q.val < 6) (O : CellTallies nD τ sig Unit) (hO : O = O₀ c ∨ O = 0) :
    (levAts L lv : sProp 𝕄) ⊢ MayWait (c : Thread nD τ) (.dma q) () O := by
  rcases hO with rfl | rfl
  · refine mayWait_of c _ _ 0 (le_of_eq (lv_stage c q hq)) fun g u hg => ?_
    unfold O₀ sigsO at hg
    rw [Pi.add_apply, Finsupp.add_apply, Pi.add_apply, Finsupp.add_apply] at hg
    rcases Nat.add_pos_iff_pos_or_pos.mp hg with h1 | hg
    · obtain ⟨t, -, ht⟩ := sum_pos _ _ h1
      rw [barO_pos ht]; exact ⟨rfl, by rw [lv_bar]; omega⟩
    rcases Nat.add_pos_iff_pos_or_pos.mp hg with h2 | h2
    · rw [recvO_pos h2]; exact ⟨rfl, by rw [lv_recv]; omega⟩
    · obtain ⟨i, -, j, hj, rfl⟩ := hopsO_pos h2
      exact ⟨rfl, by rw [lv_recv]; omega⟩
  · rw [MayWait_zero]; iintro -; iempintro

end Cert.Chain

end
-- ==== Proof.Sync.lean ====
/-
# The steps that synchronise

One rule for each: signal a barrier, wait for the barrier, wait for a landing, wait until a send has left, transfer a block. A cell is closed right
after its last use, so that each rule gives back the counter, zero.
-/
module

public import proofs.«01_k».proof.Proof.Protocol

@[expose] public section

noncomputable section

namespace Cert.Chain

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Kd → ℕ)

/-- Every cell's invariant and that it has reached round 0. -/
def records : sProp 𝕄 := bigSep Finset.univ fun ck : Dev nD × Kd => iprop(cellInv ER (rd m ρ) (K ck) (kcell ck) ∗ reached ER (kcell ck) 0)
instance records_persistent : BI.Persistent (records m ρ K) := by unfold records; infer_instance

/-- What every step may use: the cells and the levels. -/
def ctx : sProp 𝕄 := iprop(records m ρ K ∗ levAts L lv)
instance ctx_persistent : BI.Persistent (ctx m ρ K) := by unfold ctx; infer_instance

theorem ctx_cell (c : Dev nD) (k : Kd) : ctx m ρ K ⊢ iprop(cellInv ER (rd m ρ) (K (c, k)) (kcell (c, k)) ∗ reached ER (kcell (c, k)) 0) := by
  have e : (records m ρ K : sProp 𝕄) ⊢ iprop(cellInv ER (rd m ρ) (K (c, k)) (kcell (c, k)) ∗ reached ER (kcell (c, k)) 0) := by
    unfold records
    exact bigSep_elim (Φ := fun ck : Dev nD × Kd => iprop(cellInv ER (rd m ρ) (K ck) (kcell ck) ∗ reached ER (kcell ck) 0)) (Finset.mem_univ ((c, k) : Dev nD × Kd))
  unfold ctx
  iintro ⟨H, -⟩
  iapply e
  iexact H
theorem ctx_bar (c : Dev nD) : ctx m ρ K ⊢ iprop(cellInv ER (rd m ρ) (K (c, none)) (barCell c) ∗ reached ER (barCell c) 0) := ctx_cell m ρ K c none
theorem ctx_send (c : Dev nD) (h : Fin 31) : ctx m ρ K ⊢ iprop(cellInv ER (rd m ρ) (K (c, some (false, h))) (sendCell c h) ∗ reached ER (sendCell c h) 0) :=
  ctx_cell m ρ K c (some (false, h))
theorem ctx_recv (c : Dev nD) (h : Fin 31) : ctx m ρ K ⊢ iprop(cellInv ER (rd m ρ) (K (c, some (true, h))) (recvCell c h) ∗ reached ER (recvCell c h) 0) :=
  ctx_cell m ρ K c (some (true, h))
theorem ctx_mayWait_bar (c : Dev nD) : ctx m ρ K ⊢ MayWait (c : Thread nD τ) (.reg barS) () (recvO c 0 + hopsO c (List.finRange 31)) := by
  unfold ctx; iintro ⟨-, H⟩
  iapply (mayWait_bar c); iexact H
theorem ctx_mayWait_recv (c : Dev nD) (h : Fin 31) (l : List (Fin 31)) (hl : ∀ j ∈ l, h < j) :
    ctx m ρ K ⊢ MayWait (c : Thread nD τ) (.dma (recvQ h)) () (hopsO c (h :: l)) := by
  unfold ctx; iintro ⟨-, H⟩
  iapply (mayWait_recv c h l hl); iexact H

/-- Device `c` owes `O`, after waits that do not matter. -/
def owesE (c : Dev nD) (O : CellTallies nD τ sig Unit) : sProp 𝕄 := iprop(∃ W, owes (c : Thread nD τ) O W)

/-! ## The barrier -/

/-- What the signal to device `t` takes. -/
def sigR (c t : Dev nD) : sProp 𝕄 := whenP (t ≠ c) iprop(dutyTok ER (barCell t) 0 c ∗ whenP (c = nxt t) (gave c))

theorem sig_step (c t : Dev nD) (X : CellTallies nD τ sig Unit) (Ψ : PUnit → sProp 𝕄) :
    iprop(ctx m ρ K ∗ owesE c (barO c t + X) ∗ sigR c t ∗ (owesE c X -∗ Ψ ⟨⟩)) ⊢ WP c (sigStep c t) Ψ := by
  unfold sigStep sigR barO
  by_cases ht : t = c
  · rw [dif_neg (fun h => (neW_ne c t).mp h ht), if_pos ht, zero_add, whenP_neg (not_not.mpr ht)]
    unfold WP
    rw [Prog.pure_eq_ret, wp_ret]
    iintro ⟨-, HO, -, Hk⟩
    imodintro
    iapply Hk; iexact HO
  · rw [dif_pos ((neW_ne c t).mpr ht), if_neg ht, whenP_pos ht]
    simp only [semSignalWord, Prog.lift, Prog.bind_op, Prog.bind_ret, Prog.pure_eq_ret]
    unfold owesE WP
    iintro ⟨#Hctx, ⟨%W, HO⟩, ⟨Htok, Hpay⟩, Hk⟩
    ihave #Hc := (ctx_bar m ρ K t) $$ Hctx
    icases Hc with ⟨#HI, #Hr⟩
    iapply (Rounds.wp_signal 𝒱₀ ER (rd m ρ) (c : Thread nD τ) none (dst := (t : Thread nD τ)) (κ := K (t, none))
        (d := c) (mem_duties_bar m ρ t c fun e => ht e.symm)
        ((amount_bar m ρ t c).trans (by decide)) () X (add_comm _ _)) $$ [HO Htok Hpay]
    · isplitr; · iexact HI
      isplitl [HO]; · iexact HO
      isplitl [Htok]; · iexact Htok
      isplitl [Hpay]
      · rw [payload_bar]; iexact Hpay
      iexact Hr
    iintro HO
    rw [wp_ret]
    imodintro
    iapply Hk
    iexists W; iexact HO

theorem bar_step (c : Dev nD) (Ψ : PUnit → sProp 𝕄) :
    iprop(ctx m ρ K ∗ owesE c (recvO c 0 + hopsO c (List.finRange 31)) ∗ (atPos ER (barCell c) 0 ∅ 0 ∗ cred (tallyAt (barCell c) () 31))
        ∗ (owesE c (recvO c 0 + hopsO c (List.finRange 31)) ∗ semVal (barCell c) 0 ∗ gave (nxt c) -∗ Ψ ⟨⟩)) ⊢ WP c barStep Ψ := by
  unfold barStep owesE WP
  simp only [semWaitWord, Prog.lift]
  iintro ⟨#Hctx, ⟨%W, HO⟩, ⟨Hat, Hcr⟩, Hk⟩
  ihave #Hc := (ctx_bar m ρ K c) $$ Hctx
  icases Hc with ⟨#HI, #Hr⟩
  iapply (Rounds.wp_wait_rest_token 𝒱₀ ER (rd m ρ) (c : Thread nD τ) none (κ := K (c, none))
      (wpE_semWait_eq 𝒱₀ (c : Thread nD τ) none Set.univ) (Set.mem_univ _) () (O := recvO c 0 + hopsO c (List.finRange 31)) (W := W) (R := 0) (m := 0) (T := ∅)
      (by rw [expect_bar m ρ c]; decide)) $$ [Hcr HO Hat]
  · isplitr; · iexact HI
    isplitl [Hcr]; · iexact Hcr
    isplitl [HO]; · iexact HO
    isplitr; · iapply (ctx_mayWait_bar m ρ K c); iexact Hctx
    iexact Hat
  iintro ⟨HO, Hat, -, Hpay⟩
  ihave Hp := (rest_bar m ρ c) $$ Hpay
  rw [wp_ret]
  imod (Rounds.cell_close ER (rd m ρ) (Set.mem_univ (K (c, none))) (fun h => h) (R := 0 + 1) (duties_later m ρ (barCell c))) $$ [Hat] with Hz
  · isplitr; · iexact HI
    iexact Hat
  imodintro
  iapply Hk
  isplitl [HO]; · iexists _; iexact HO
  isplitl [Hz]; · iexact Hz
  iexact Hp

/-! ## Waiting for a transfer's two ends -/

/-- Closing a cell that is not used. -/
theorem close_idle (c : Dev nD) (k : Bool × Fin 31) (ha : ¬ if k.1 then actR c k.2 else actS c k.2) :
    iprop(ctx m ρ K ∗ atPos ER (kcell (c, some k)) 0 ∅ 0) ⊢ iprop(|={Set.univ}=> semVal (kcell (c, some k)) 0) := by
  iintro ⟨#Hctx, Hat⟩
  ihave #Hc := (ctx_cell m ρ K c (some k)) $$ Hctx
  icases Hc with ⟨#HI, #Hr⟩
  iapply (Rounds.cell_close ER (rd m ρ) (Set.mem_univ (K (c, some k))) (fun h => h) (R := 0) (fun r _ => by
    by_cases hr : r = 0
    · rw [hr, duties_eq, dutiesK_idle c k ha]
    · exact duties_later m ρ _ r (by omega)))
  isplitr; · iexact HI
  iexact Hat

/-- What a wait for a landing takes. -/
def recvR (c : Dev nD) (h : Fin 31) : sProp 𝕄 := iprop(atPos ER (recvCell c h) 0 ∅ 0 ∗ whenP (actR c h) (cred (tallyAt (recvCell c h) () N)))

theorem recv_step (c : Dev nD) (h : Fin 31) (l : List (Fin 31)) (hl : ∀ j ∈ l, h < j) (Ψ : PUnit → sProp 𝕄) :
    iprop(ctx m ρ K ∗ owesE c (hopsO c (h :: l)) ∗ recvR c h
        ∗ (owesE c (hopsO c (h :: l)) ∗ semVal (recvCell c h) 0 ∗ whenP (actR c h) (slotPts c h fullShare (commOf m ρ c)) -∗ Ψ ⟨⟩)) ⊢ WP c (recvStep c h) Ψ := by
  unfold recvStep recvR
  by_cases ha : actR c h
  · rw [dif_pos ((geW_act c h).mpr ha), whenP_pos ha, whenP_pos ha]
    simp only [Prog.lift, Prog.bind_op, Prog.bind_ret, Prog.pure_eq_ret]
    unfold owesE WP
    iintro ⟨#Hctx, ⟨%W, HO⟩, ⟨Hat, Hcr⟩, Hk⟩
    ihave #Hc := (ctx_recv m ρ K c h) $$ Hctx
    icases Hc with ⟨#HI, #Hr⟩
    iapply (Rounds.wp_wait_rest_token 𝒱₀ ER (rd m ρ) (c : Thread nD τ) none (κ := K (c, some (true, h)))
        (wpE_waitDma2_eq 𝒱₀ (c : Thread nD τ) none Set.univ) (Set.mem_univ _) () (O := hopsO c (h :: l)) (W := W) (R := 0) (m := 0) (T := ∅)
        (by rw [Nat.zero_add]; exact (expect_recv m ρ c h ha).symm)) $$ [Hcr HO Hat]
    · isplitr; · iexact HI
      isplitl [Hcr]; · iexact Hcr
      isplitl [HO]; · iexact HO
      isplitr; · iapply (ctx_mayWait_recv m ρ K c h l hl); iexact Hctx
      iexact Hat
    iintro ⟨HO, Hat, -, Hpay⟩
    ihave Hp := (Entails.of_eq (rest_recv m ρ c h ha)) $$ Hpay
    rw [wp_ret]
    imod (Rounds.cell_close ER (rd m ρ) (Set.mem_univ (K (c, some (true, h)))) (fun h => h) (R := 0 + 1) (duties_later m ρ (recvCell c h))) $$ [Hat] with Hz
    · isplitr; · iexact HI
      iexact Hat
    imodintro
    iapply Hk
    isplitl [HO]; · iexists _; iexact HO
    isplitl [Hz]; · iexact Hz
    iexact Hp
  · rw [dif_neg (fun hh => ha ((geW_act c h).mp hh)), whenP_neg ha, whenP_neg ha]
    unfold WP
    rw [Prog.pure_eq_ret, wp_ret]
    iintro ⟨#Hctx, HO, ⟨Hat, -⟩, Hk⟩
    imod (close_idle m ρ K c (true, h) ha) $$ [Hat] with Hz
    · isplitr; · iexact Hctx
      iexact Hat
    imodintro
    iapply Hk
    isplitl [HO]; · iexact HO
    isplitl [Hz]; · iexact Hz
    iempintro

/-- What a wait for a send takes. -/
def sentR (c : Dev nD) (h : Fin 31) : sProp 𝕄 := iprop(atPos ER (sendCell c h) 0 ∅ 0 ∗ whenP (actS c h) (cred (tallyAt (sendCell c h) () N)))
/-- What it gives back. -/
def sentQ (c : Dev nD) (h : Fin 31) : sProp 𝕄 := iprop(semVal (sendCell c h) 0 ∗ whenP (actS c h) (srcPts m ρ c h fullShare.left))

theorem sent_step (c : Dev nD) (h : Fin 31) (Ψ : PUnit → sProp 𝕄) :
    iprop(ctx m ρ K ∗ owesE c 0 ∗ sentR c h ∗ (owesE c 0 ∗ sentQ m ρ c h -∗ Ψ ⟨⟩)) ⊢ WP c (sentStep c h) Ψ := by
  unfold sentStep sentR sentQ
  by_cases ha : actS c h
  · rw [dif_pos ((midW_act c h).mpr ha), whenP_pos ha, whenP_pos ha]
    simp only [Prog.lift, Prog.bind_op, Prog.bind_ret, Prog.pure_eq_ret]
    unfold owesE WP
    iintro ⟨#Hctx, ⟨%W, HO⟩, ⟨Hat, Hcr⟩, Hk⟩
    ihave #Hc := (ctx_send m ρ K c h) $$ Hctx
    icases Hc with ⟨#HI, #Hr⟩
    iapply (Rounds.wp_wait_rest_token 𝒱₀ ER (rd m ρ) (c : Thread nD τ) none (κ := K (c, some (false, h)))
        (wpE_waitDma2_eq 𝒱₀ (c : Thread nD τ) none Set.univ) (Set.mem_univ _) () (O := 0) (W := W) (R := 0) (m := 0) (T := ∅)
        (by rw [Nat.zero_add]; exact (expect_send m ρ c h ha).symm)) $$ [Hcr HO Hat]
    · isplitr; · iexact HI
      isplitl [Hcr]; · iexact Hcr
      isplitl [HO]; · iexact HO
      isplitr; · rw [MayWait_zero]; iempintro
      iexact Hat
    iintro ⟨HO, Hat, -, Hpay⟩
    ihave Hp := (Entails.of_eq (rest_send m ρ c h ha)) $$ Hpay
    rw [wp_ret]
    imod (Rounds.cell_close ER (rd m ρ) (Set.mem_univ (K (c, some (false, h)))) (fun h => h) (R := 0 + 1) (duties_later m ρ (sendCell c h))) $$ [Hat] with Hz
    · isplitr; · iexact HI
      iexact Hat
    imodintro
    iapply Hk
    isplitl [HO]; · iexists _; iexact HO
    isplitl [Hz]; · iexact Hz
    iexact Hp
  · rw [dif_neg (fun hh => ha ((midW_act c h).mp hh)), whenP_neg ha, whenP_neg ha]
    unfold WP
    rw [Prog.pure_eq_ret, wp_ret]
    iintro ⟨#Hctx, HO, ⟨Hat, -⟩, Hk⟩
    imod (close_idle m ρ K c (false, h) ha) $$ [Hat] with Hz
    · isplitr; · iexact Hctx
      iexact Hat
    imodintro
    iapply Hk
    isplitl [HO]; · iexact HO
    isplitl [Hz]; · iexact Hz
    iempintro

/-! ## The transfers -/

/-- What send number `h` takes besides what it reads: its two duties and the slot it writes. -/
def sendT (c : Dev nD) (h : Fin 31) : sProp 𝕄 :=
  whenP (actS c h) iprop(dutyTok ER (sendCell c h) 0 0 ∗ dutyTok ER (recvCell (nxt c) h) 0 0 ∗ ∃ f, slotPts (nxt c) h fullShare f)
/-- What it leaves until the wait: the send's credit. -/
def sendC (c : Dev nD) (h : Fin 31) : sProp 𝕄 := whenP (actS c h) (cred (tallyAt (sendCell c h) () N))

/-- Send number `h`, from `sM` holding `fs`, to slot `h` of the device `n`, which is the next one. -/
theorem wp_xfer (c n : Dev nD) (hn : n = nxt c) (h : Fin 31) (ha : actS c h) (sM : Memref sig .tc .vmem S2x8x128x64 .bf16) {hsc}
    {hsrc : sM.view.WordExact} {hdst : (slotM h).view.WordExact}
    {hsem : DmaTarget.Typed .vmem (.dma (recvQ h)) (.remote (Dev.tc n : Thread nD τ) (slotM h) (.dma (sendQ h)) hsc)}
    (fs : sM.view.ty.Contents (Elt F)) (hfs : sM.view.read (Elt F) fs = kvM.view.read (Elt F) (kvT m ρ (src (nxt c) h)))
    (hpay : (sM.view.loc (c : Thread nD τ) ↦[sM.view.set]{fullShare.left} fs : sProp 𝕄) ⊢ srcPts m ρ c h fullShare.left)
    {α : Type} {Q : α → sProp 𝕄} {k : PUnit → BProg F α} (O : CellTallies nD τ sig Unit) :
    iprop(ctx m ρ K ∗ owesE c (recvO c h + O) ∗ (sM.view.loc (c : Thread nD τ) ↦[sM.view.set]{fullShare.left} fs) ∗ sendT c h
        ∗ (owesE c O ∗ sendC c h -∗ WP c (k ⟨⟩) Q))
      ⊢ WP c (.op (.enqueueDma sM (.remote (Dev.tc n : Thread nD τ) (slotM h) (.dma (sendQ h)) hsc) (.dma (recvQ h)) hsrc hdst hsem) k) Q := by
  subst hn
  unfold sendT sendC owesE recvO slotPts
  rw [whenP_pos ha, whenP_pos ha, if_pos ha]
  iintro ⟨#Hctx, ⟨%W, HO⟩, Hsrc, ⟨HtS, HtR, ⟨%fd, Hdst⟩⟩, Hk⟩
  ihave #Hc := (ctx_send m ρ K c h) $$ Hctx
  icases Hc with ⟨#HIs, #Hrs⟩
  ihave #Hc := (ctx_recv m ρ K (nxt c) h) $$ Hctx
  icases Hc with ⟨#HIr, #Hrr⟩
  iapply (Rounds.wp_send_pointsTo 𝒱₀ ER (rd m ρ) (c : Thread nD τ) none (κ₁ := K (c, some (false, h))) (κ₂ := K (nxt c, some (true, h)))
    (r₁ := 0) (r₂ := 0) (d₁ := 0) (d₂ := 0) (fd := fd)
    (mem_duties_send m ρ c h ha) (mem_duties_recv m ρ (nxt c) h ha)
    () () N (slot_amount h _ ⟨_, rfl⟩) (amount_send m ρ c h 0) (amount_recv m ρ (nxt c) h 0) O (add_comm _ _) (W := W)
    (by rw [payload_send]; exact hpay)
    (by
      rw [payload_recv]
      unfold slotPts
      rw [hfs, pointsTo_congr fun i hi => commOf_slot m ρ (nxt c) h i hi fd])) $$ [Hsrc Hdst HO HtS HtR]
  · isplitr; · iexact HIs
    isplitr; · iexact HIr
    isplitl [Hsrc]; · iexact Hsrc
    isplitl [Hdst]; · iexact Hdst
    isplitl [HO]; · iexact HO
    isplitl [HtS]; · iexact HtS
    isplitr; · iexact Hrs
    isplitl [HtR]; · iexact HtR
    iexact Hrr
  iintro ⟨Hcr, HO⟩
  iapply Hk
  isplitl [HO]; · iexists W; iexact HO
  iexact Hcr

/-- The half of the own block that a device which sends nothing keeps. -/
theorem send_step (c : Dev nD) (Ψ : PUnit → sProp 𝕄) (O : CellTallies nD τ sig Unit) :
    iprop(ctx m ρ K ∗ owesE c (recvO c 0 + O) ∗ kvPts c fullShare.left (kvT m ρ c) ∗ sendT c 0
        ∗ (owesE c O ∗ sendC c 0 ∗ whenP (¬ actS c 0) (kvPts c fullShare.left (kvT m ρ c)) -∗ Ψ ⟨⟩)) ⊢ WP c (sendStep c) Ψ := by
  unfold sendStep
  by_cases ha : actS c 0
  · rw [dif_pos ((cond33_act c).mpr ha), whenP_neg (not_not.mpr ha)]
    simp only [Prog.lift, Prog.bind_op, Prog.bind_ret, Prog.pure_eq_ret]
    iintro ⟨#Hctx, HO, Hkv, HT, Hk⟩
    iapply (wp_xfer m ρ K c _ (dev_next c 0 ha _) 0 ha kvM (kvT m ρ c) (by rw [src_first c ha]) (BI.Entails.refl _) O)
    isplitr; · iexact Hctx
    isplitl [HO]; · iexact HO
    isplitl [Hkv]; · unfold kvPts; iexact Hkv
    isplitl [HT]; · iexact HT
    iintro ⟨HO, HC⟩
    unfold WP
    rw [wp_ret]
    imodintro
    iapply Hk
    isplitl [HO]; · iexact HO
    isplitl [HC]; · iexact HC
    iempintro
  · rw [dif_neg (fun hh => ha ((cond33_act c).mp hh)), whenP_pos ha]
    unfold WP recvO sendC
    rw [Prog.pure_eq_ret, wp_ret, if_neg ha, zero_add, whenP_neg ha]
    iintro ⟨-, HO, Hkv, -, Hk⟩
    imodintro
    iapply Hk
    isplitl [HO]; · iexact HO
    isplitr; · iempintro
    iexact Hkv

theorem fwd_step (c : Dev nD) (h : Fin 30) (Ψ : PUnit → sProp 𝕄) (O : CellTallies nD τ sig Unit) :
    iprop(ctx m ρ K ∗ owesE c (recvO c h.succ + O) ∗ whenP (actR c h.castSucc) (slotPts c h.castSucc fullShare.left (commOf m ρ c)) ∗ sendT c h.succ
        ∗ (owesE c O ∗ sendC c h.succ ∗ whenP (actR c h.castSucc ∧ ¬ actF c h.castSucc) (slotPts c h.castSucc fullShare.left (commOf m ρ c)) -∗ Ψ ⟨⟩))
      ⊢ WP c (fwdStep c h) Ψ := by
  unfold fwdStep
  by_cases ha : actS c h.succ
  · have hF := (actF_iff c h).mp ha
    rw [dif_pos ((midW_fwd c h).mpr ha), whenP_neg (p := actR c h.castSucc ∧ ¬ actF c h.castSucc) (fun hn => hn.2 hF), whenP_pos (p := actR c h.castSucc) hF.1]
    simp only [Prog.lift, Prog.bind_op, Prog.bind_ret, Prog.pure_eq_ret]
    iintro ⟨#Hctx, HO, Hkv, HT, Hk⟩
    iapply (wp_xfer m ρ K c _ (dev_next c h.succ ha _) h.succ ha (slotM h.castSucc) (commOf m ρ c) (by rw [read_commOf, src_next c h ha]) (BI.Entails.refl _) O)
    isplitr; · iexact Hctx
    isplitl [HO]; · iexact HO
    isplitl [Hkv]; · unfold slotPts; iexact Hkv
    isplitl [HT]; · iexact HT
    iintro ⟨HO, HC⟩
    unfold WP
    rw [wp_ret]
    imodintro
    iapply Hk
    isplitl [HO]; · iexact HO
    isplitl [HC]; · iexact HC
    iempintro
  · rw [dif_neg (fun hh => ha ((midW_fwd c h).mp hh)), whenP_congr (p := actR c h.castSucc ∧ ¬ actF c h.castSucc) (q := actR c h.castSucc) ⟨fun h => h.1, fun hr => ⟨hr, fun hF => ha ((actF_iff c h).mpr hF)⟩⟩]
    unfold WP recvO sendC
    rw [Prog.pure_eq_ret, wp_ret, if_neg ha, zero_add, whenP_neg ha]
    iintro ⟨-, HO, Hkv, -, Hk⟩
    imodintro
    iapply Hk
    isplitl [HO]; · iexact HO
    isplitr; · iempintro
    iexact Hkv

end Cert.Chain

end
-- ==== Proof.Local.lean ====
/-
# The steps that compute, and one hop

The accumulators are a pair `s`: the weighted sum of values and the sum of weights. `ownA` is what the own block puts there, `nextA c q h` what slot
`h` adds. `hop_step` is the rule of one hop: wait for slot `h`, forward it, add it.
-/
module

public import proofs.«01_k».proof.Proof.Sync

@[expose] public section

noncomputable section

namespace Cert.Chain

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Kd → ℕ)

/-! ## Whole-buffer accesses -/

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

theorem read_x (f : (cc0_stg0_0 : Ref sig .tc).ty.Contents (Elt F)) : xM.view.readAt (Elt F) rX.toLoadRect f = f := Memref.readAt_unit_zero (Elt F) cc0_stg0_0 hz3 _ f
theorem read_wq (f : (cc0_stg1_0 : Ref sig .tc).ty.Contents (Elt F)) : wqM.view.readAt (Elt F) rWq.toLoadRect f = f := Memref.readAt_unit_zero (Elt F) cc0_stg1_0 hz2 _ f
theorem read_k (f : (cc0_stg2_0 : Ref sig .tc).ty.Contents (Elt F)) : kM.view.readAt (Elt F) rK.toLoadRect f = f := Memref.readAt_unit_zero (Elt F) cc0_stg2_0 hz4 _ f
theorem read_v (f : (cc0_stg3_0 : Ref sig .tc).ty.Contents (Elt F)) : vM.view.readAt (Elt F) rK.toLoadRect f = f := Memref.readAt_unit_zero (Elt F) cc0_stg3_0 hz4 _ f
theorem read_wo (f : (cc0_stg4_0 : Ref sig .tc).ty.Contents (Elt F)) : woM.view.readAt (Elt F) rWo.toLoadRect f = f := Memref.readAt_unit_zero (Elt F) cc0_stg4_0 hz2 _ f
theorem read_a (f : (cc0_scratch2 : Ref sig .tc).ty.Contents (Elt F)) : aM.view.readAt (Elt F) rA.toLoadRect f = f := Memref.readAt_unit_zero (Elt F) cc0_scratch2 hz3 _ f
theorem read_l (f : (cc0_scratch3 : Ref sig .tc).ty.Contents (Elt F)) : lM.view.readAt (Elt F) rL.toLoadRect f = f := Memref.readAt_unit_zero (Elt F) cc0_scratch3 hz2 _ f
theorem write_a (f w : (cc0_scratch2 : Ref sig .tc).ty.Contents (Elt F)) : (aM.access rA).write (Elt F) f w Finset.univ = w := Memref.write_access_unit_zero_univ (Elt F) cc0_scratch2 hz3 _ f w
theorem write_l (f w : (cc0_scratch3 : Ref sig .tc).ty.Contents (Elt F)) : (lM.access rL).write (Elt F) f w Finset.univ = w := Memref.write_access_unit_zero_univ (Elt F) cc0_scratch3 hz2 _ f w
theorem write_o (f w : (cc0_stg5_0 : Ref sig .tc).ty.Contents (Elt F)) : (oM.access rX).write (Elt F) f w Finset.univ = w := Memref.write_access_unit_zero_univ (Elt F) cc0_stg5_0 hz3 _ f w

/-- Device `c`'s buffer `b` holds `f`, whole. -/
abbrev bufPts (c : Dev nD) (b : Ref sig .tc) (f : b.ty.Contents (Elt F)) : sProp 𝕄 := ((c : Thread nD τ).loc b) ↦{fullShare} f

omit [FloatOps F] in
theorem kvPts_eq (c : Dev nD) (f : (cc0_scratch0 : Ref sig .tc).ty.Contents (Elt F)) : kvPts c fullShare f = bufPts c cc0_scratch0 f := by
  unfold kvPts; rw [View.set_whole]

/-! ## The accumulators -/

abbrev Acc (F : FTy → Type) : Type := FVec F S8x128x64 .f32 × FVec F S8x128 .f32

/-- The own keys and values, and those of slot `h`, as they are loaded. -/
def kOwn (c : Dev nD) : FVec F S1x8x128x64 .bf16 := kvM.view.readAt (Elt F) rK0.toLoadRect (kvT m ρ c)
def vOwn (c : Dev nD) : FVec F S1x8x128x64 .bf16 := kvM.view.readAt (Elt F) rK1.toLoadRect (kvT m ρ c)
def kAt (c : Dev nD) (h : Fin 31) : FVec F S1x1x8x128x64 .bf16 := cM.view.readAt (Elt F) (rC h 0).toLoadRect (commOf m ρ c)
def vAt (c : Dev nD) (h : Fin 31) : FVec F S1x1x8x128x64 .bf16 := cM.view.readAt (Elt F) (rC h 1).toLoadRect (commOf m ρ c)

/-- The accumulators after the own block. -/
def ownA (c : Dev nD) (q : FVec F S8x128x64 .bf16) : Acc F :=
  (k0_pay8 q k0_pay4 (iota .tc S128x128 32 [1] Gen.iota_S128x128_d1_w32) 64#32 k0_pay5 k0_pay6 (kOwn m ρ c) (vOwn m ρ c),
   k0_pay10 (k0_pay9 q k0_pay4 (iota .tc S128x128 32 [1] Gen.iota_S128x128_d1_w32) 64#32 k0_pay5 k0_pay6 (kOwn m ρ c)))
/-- The accumulators after hop `h`. -/
def nextA (c : Dev nD) (q : FVec F S8x128x64 .bf16) (h : Fin 31) (s : Acc F) : Acc F :=
  if actR c h then (k0_pay12 q (kAt m ρ c h) (vAt m ρ c h) s.1, k0_pay13 q (kAt m ρ c h) s.2) else s
/-- The accumulators hold `s`. -/
def accPts (c : Dev nD) (s : Acc F) : sProp 𝕄 := iprop(bufPts c cc0_scratch2 s.1 ∗ bufPts c cc0_scratch3 s.2)

/-! ## The local steps -/

theorem kv_step (c : Dev nD) (f : (cc0_scratch0 : Ref sig .tc).ty.Contents (Elt F)) (Ψ : PUnit → sProp 𝕄) :
    iprop(bufPts c cc0_stg2_0 (kStg m ρ c) ∗ bufPts c cc0_stg3_0 (vStg m ρ c) ∗ bufPts c cc0_scratch0 f
        ∗ (bufPts c cc0_stg2_0 (kStg m ρ c) ∗ bufPts c cc0_stg3_0 (vStg m ρ c) ∗ kvPts c fullShare (kvT m ρ c) -∗ Ψ ⟨⟩)) ⊢ WP c kvStep Ψ := by
  unfold kvStep WP
  simp only [Prog.lift, Prog.bind_op, Prog.bind_ret]
  iintro ⟨HK, HV, Hs, Hk⟩
  iapply (wp_load 𝒱₀ (c : Thread nD τ) none Set.univ (m := kM) (Finset.subset_univ _)) $$ HK; iintro HK
  rw [read_k]
  iapply (wp_load 𝒱₀ (c : Thread nD τ) none Set.univ (m := kvM) (Finset.subset_univ _)) $$ Hs; iintro Hs
  iapply (wp_store 𝒱₀ (c : Thread nD τ) none Set.univ (m := kvM) (r := rK0) (Mk := Finset.univ) (Finset.subset_univ _)) $$ Hs; iintro Hs
  iapply (wp_load 𝒱₀ (c : Thread nD τ) none Set.univ (m := vM) (Finset.subset_univ _)) $$ HV; iintro HV
  rw [read_v]
  iapply (wp_load 𝒱₀ (c : Thread nD τ) none Set.univ (m := kvM) (Finset.subset_univ _)) $$ Hs; iintro Hs
  iapply (wp_store 𝒱₀ (c : Thread nD τ) none Set.univ (m := kvM) (r := rK1) (Mk := Finset.univ) (Finset.subset_univ _)) $$ Hs; iintro Hs
  rw [wp_ret]
  imodintro
  iapply Hk
  isplitl [HK]; · iexact HK
  isplitl [HV]; · iexact HV
  have e : kvT m ρ c = kvPut (kStg m ρ c) (vStg m ρ c) f := kvPut_base _ _ _ _
  rw [kvPts_eq, e]
  iexact Hs

theorem own_step (c : Dev nD) (q : FVec F S8x128x64 .bf16) (sh : PosShare TreeShare) (s : Acc F) (Ψ : PUnit → sProp 𝕄) :
    iprop(kvPts c sh (kvT m ρ c) ∗ accPts c s ∗ (kvPts c sh (kvT m ρ c) ∗ accPts c (ownA m ρ c q) -∗ Ψ ⟨⟩)) ⊢ WP c (ownStep q) Ψ := by
  unfold ownStep WP accPts kvPts
  simp only [Prog.lift, Prog.bind_op, Prog.bind_ret]
  iintro ⟨Hkv, ⟨Ha, Hl⟩, Hk⟩
  iapply (wp_load 𝒱₀ (c : Thread nD τ) none Set.univ (m := kvM) (by rw [View.set_whole]; exact Finset.subset_univ _)) $$ Hkv; iintro Hkv
  iapply (wp_load 𝒱₀ (c : Thread nD τ) none Set.univ (m := kvM) (by rw [View.set_whole]; exact Finset.subset_univ _)) $$ Hkv; iintro Hkv
  iapply (wp_load 𝒱₀ (c : Thread nD τ) none Set.univ (m := aM) (Finset.subset_univ _)) $$ Ha; iintro Ha
  iapply (wp_store 𝒱₀ (c : Thread nD τ) none Set.univ (m := aM) (r := rA) (Mk := Finset.univ) (Finset.subset_univ _)) $$ Ha; iintro Ha
  rw [write_a]
  iapply (wp_load 𝒱₀ (c : Thread nD τ) none Set.univ (m := lM) (Finset.subset_univ _)) $$ Hl; iintro Hl
  iapply (wp_store 𝒱₀ (c : Thread nD τ) none Set.univ (m := lM) (r := rL) (Mk := Finset.univ) (Finset.subset_univ _)) $$ Hl; iintro Hl
  rw [write_l, wp_ret]
  imodintro
  iapply Hk
  isplitl [Hkv]; · iexact Hkv
  isplitl [Ha]; · iexact Ha
  iexact Hl

theorem acc_step (c : Dev nD) (q : FVec F S8x128x64 .bf16) (h : Fin 31) (sh : PosShare TreeShare) (s : Acc F) (Ψ : PUnit → sProp 𝕄) :
    iprop(whenP (actR c h) (slotPts c h sh (commOf m ρ c)) ∗ accPts c s
        ∗ (whenP (actR c h) (slotPts c h sh (commOf m ρ c)) ∗ accPts c (nextA m ρ c q h s) -∗ Ψ ⟨⟩)) ⊢ WP c (accStep c q h) Ψ := by
  unfold accStep nextA
  by_cases ha : actR c h
  · rw [dif_pos ((geW_act c h).mpr ha), whenP_pos ha, if_pos ha]
    unfold WP accPts slotPts
    simp only [Prog.lift, Prog.bind_op, Prog.bind_ret, Prog.pure_eq_ret]
    iintro ⟨Hs, ⟨Ha, Hl⟩, Hk⟩
    iapply (wp_load 𝒱₀ (c : Thread nD τ) none Set.univ (m := cM) (half_subset h 0)) $$ Hs; iintro Hs
    iapply (wp_load 𝒱₀ (c : Thread nD τ) none Set.univ (m := cM) (half_subset h 1)) $$ Hs; iintro Hs
    iapply (wp_load 𝒱₀ (c : Thread nD τ) none Set.univ (m := aM) (Finset.subset_univ _)) $$ Ha; iintro Ha
    iapply (wp_load 𝒱₀ (c : Thread nD τ) none Set.univ (m := aM) (Finset.subset_univ _)) $$ Ha; iintro Ha
    rw [read_a]
    iapply (wp_store 𝒱₀ (c : Thread nD τ) none Set.univ (m := aM) (r := rA) (Mk := Finset.univ) (Finset.subset_univ _)) $$ Ha; iintro Ha
    rw [write_a]
    iapply (wp_load 𝒱₀ (c : Thread nD τ) none Set.univ (m := lM) (Finset.subset_univ _)) $$ Hl; iintro Hl
    iapply (wp_load 𝒱₀ (c : Thread nD τ) none Set.univ (m := lM) (Finset.subset_univ _)) $$ Hl; iintro Hl
    rw [read_l]
    iapply (wp_store 𝒱₀ (c : Thread nD τ) none Set.univ (m := lM) (r := rL) (Mk := Finset.univ) (Finset.subset_univ _)) $$ Hl; iintro Hl
    rw [write_l, wp_ret]
    imodintro
    iapply Hk
    isplitl [Hs]; · iexact Hs
    isplitl [Ha]; · iexact Ha
    iexact Hl
  · rw [dif_neg (fun hh => ha ((geW_act c h).mp hh)), if_neg ha]
    unfold WP
    rw [Prog.pure_eq_ret, wp_ret]
    iintro ⟨Hs, Ha, Hk⟩
    imodintro
    iapply Hk
    isplitl [Hs]; · iexact Hs
    iexact Ha

theorem out_step (c : Dev nD) (s : Acc F) (g : (cc0_stg5_0 : Ref sig .tc).ty.Contents (Elt F)) (Ψ : PUnit → sProp 𝕄) :
    iprop(accPts c s ∗ bufPts c cc0_stg4_0 (woStg m ρ c) ∗ bufPts c cc0_stg5_0 g
        ∗ (accPts c s ∗ bufPts c cc0_stg4_0 (woStg m ρ c) ∗ bufPts c cc0_stg5_0 (k0_pay105 (k0_pay104 s.1 s.2) (woStg m ρ c)) -∗ Ψ ⟨⟩)) ⊢ WP c outStep Ψ := by
  unfold outStep WP accPts
  simp only [Prog.lift, Prog.bind_op, Prog.bind_ret]
  iintro ⟨⟨Ha, Hl⟩, Hw, Ho, Hk⟩
  iapply (wp_load 𝒱₀ (c : Thread nD τ) none Set.univ (m := aM) (Finset.subset_univ _)) $$ Ha; iintro Ha
  rw [read_a]
  iapply (wp_load 𝒱₀ (c : Thread nD τ) none Set.univ (m := lM) (Finset.subset_univ _)) $$ Hl; iintro Hl
  rw [read_l]
  iapply (wp_load 𝒱₀ (c : Thread nD τ) none Set.univ (m := woM) (Finset.subset_univ _)) $$ Hw; iintro Hw
  rw [read_wo]
  iapply (wp_load 𝒱₀ (c : Thread nD τ) none Set.univ (m := oM) (Finset.subset_univ _)) $$ Ho; iintro Ho
  iapply (wp_store 𝒱₀ (c : Thread nD τ) none Set.univ (m := oM) (r := rX) (Mk := Finset.univ) (Finset.subset_univ _)) $$ Ho; iintro Ho
  rw [write_o, wp_ret]
  imodintro
  iapply Hk
  isplitl [Ha Hl]
  · isplitl [Ha]; · iexact Ha
    iexact Hl
  isplitl [Hw]; · iexact Hw
  iexact Ho

/-! ## One hop -/

/-- The first step of a list, then the others. -/
theorem wp_seq_cons (c : Dev nD) {α : Type} (s : BProg F PUnit) (l : List (BProg F PUnit)) (p : BProg F α) (Ψ : α → sProp 𝕄) :
    WP c (seq (s :: l) p) Ψ = WP c s (fun _ => WP c (seq l p) Ψ) := wp_bind ..
theorem wp_seq_nil (c : Dev nD) (Ψ : PUnit → sProp 𝕄) : WP c (seq [] (pure ⟨⟩)) Ψ = iprop(|={Set.univ}=> Ψ ⟨⟩) := wp_ret ..

omit [FloatOps F] in
/-- A slot is its two halves of the share. -/
theorem slot_halves (c : Dev nD) (h : Fin 31) (f : (cc0_scratch1 : Ref sig .tc).ty.Contents (Elt F)) :
    slotPts c h fullShare f ⊣⊢ iprop(slotPts c h fullShare.left f ∗ slotPts c h fullShare.right f) := by
  unfold slotPts; exact pointsTo_share (PosShare.mem_left_op_right fullShare)
omit [FloatOps F] in
theorem kv_halves (c : Dev nD) (f : (cc0_scratch0 : Ref sig .tc).ty.Contents (Elt F)) :
    kvPts c fullShare f ⊣⊢ iprop(kvPts c fullShare.left f ∗ kvPts c fullShare.right f) := by
  unfold kvPts; exact pointsTo_share (PosShare.mem_left_op_right fullShare)
omit [FloatOps F] in
theorem slot_halves_when (c : Dev nD) (h : Fin 31) (p : Prop) [Decidable p] (f : (cc0_scratch1 : Ref sig .tc).ty.Contents (Elt F)) :
    whenP p (slotPts c h fullShare f) ⊢ iprop(whenP p (slotPts c h fullShare.left f) ∗ whenP p (slotPts c h fullShare.right f)) := by
  by_cases hp : p
  · rw [whenP_pos hp, whenP_pos hp, whenP_pos hp]; exact (slot_halves c h f).1
  · rw [whenP_neg hp, whenP_neg hp, whenP_neg hp]; iintro -; isplitl <;> iempintro

omit [FloatOps F] in
theorem hopsO_cons (c : Dev nD) (h : Fin 31) (l : List (Fin 31)) : hopsO c (h :: l) = hopO c h + hopsO c l := by
  unfold hopsO; rw [List.map_cons, List.sum_cons]

/-- What hop `h` takes. -/
def hopR (c : Dev nD) (h : Fin 31) : sProp 𝕄 := iprop(recvR c h ∗ after1 (sendT c) h)
/-- What it leaves. -/
def hopQ (c : Dev nD) (h : Fin 31) : sProp 𝕄 :=
  iprop(semVal (recvCell c h) 0 ∗ after1 (sendC c) h ∗ whenP (actR c h) (slotPts c h fullShare.right (commOf m ρ c))
    ∗ whenP (actR c h ∧ ¬ actF c h) (slotPts c h fullShare.left (commOf m ρ c)))

/-- One hop as one program. -/
def hopStep (c : Dev nD) (q : FVec F S8x128x64 .bf16) (h : Fin 31) : BProg F PUnit := seq (hop c q h) (pure ⟨⟩)

theorem seq_hops (c : Dev nD) (q : FVec F S8x128x64 .bf16) {α : Type} (p : BProg F α) (l : List (Fin 31)) :
    seq (l.flatMap (hop c q)) p = seq (l.map (hopStep c q)) p := by
  induction l with
  | nil => rfl
  | cons h l ih =>
    rw [List.flatMap_cons, List.map_cons, ← seq_append, ih]
    show _ = hopStep c q h >>= fun _ => seq (l.map (hopStep c q)) p
    rw [hopStep, seq_bind, pure_bind]

theorem hop_step (c : Dev nD) (q : FVec F S8x128x64 .bf16) (h : Fin 31) (l : List (Fin 31)) (s : Acc F) (Ψ : PUnit → sProp 𝕄) (hl : ∀ j ∈ l, h < j) :
    iprop(ctx m ρ K ∗ (owesE c (hopsO c (h :: l)) ∗ accPts c s) ∗ hopR c h
        ∗ ((owesE c (hopsO c l) ∗ accPts c (nextA m ρ c q h s)) ∗ hopQ m ρ c h -∗ Ψ ⟨⟩)) ⊢ WP c (hopStep c q h) Ψ := by
  unfold hopR hopQ hopStep
  by_cases hh : h.val < 30
  · obtain ⟨h', rfl⟩ : ∃ h' : Fin 30, h = h'.castSucc := ⟨⟨h.val, hh⟩, rfl⟩
    have e : hop c q h'.castSucc = [recvStep c h'.castSucc, fwdStep c h', accStep (F := F) c q h'.castSucc] := by unfold hop; rw [dif_pos hh]; rfl
    have eT : after1 (sendT (F := F) c) h'.castSucc = sendT c h'.succ := dif_pos hh
    have eC : after1 (sendC (F := F) c) h'.castSucc = sendC c h'.succ := dif_pos hh
    have eO : hopsO c (h'.castSucc :: l) = recvO c h'.succ + hopsO c l := by rw [hopsO_cons]; congr 1; exact dif_pos hh
    rw [e, eT, eC]
    rw [wp_seq_cons]
    iintro ⟨#Hctx, ⟨HO, Ha⟩, ⟨HR, HT⟩, Hk⟩
    iapply (recv_step m ρ K c h'.castSucc l hl)
    isplitr; · iexact Hctx
    isplitl [HO]; · iexact HO
    isplitl [HR]; · iexact HR
    iintro ⟨HO, Hz, Hs⟩
    ihave Hs := (slot_halves_when c h'.castSucc _ _) $$ Hs
    icases Hs with ⟨HsL, HsR⟩
    rw [wp_seq_cons, eO]
    iapply (fwd_step m ρ K c h' _ (hopsO c l))
    isplitr; · iexact Hctx
    isplitl [HO]; · iexact HO
    isplitl [HsL]; · iexact HsL
    isplitl [HT]; · iexact HT
    iintro ⟨HO, HC, HsL⟩
    rw [wp_seq_cons]
    iapply (acc_step m ρ c q h'.castSucc fullShare.right s)
    isplitl [HsR]; · iexact HsR
    isplitl [Ha]; · iexact Ha
    iintro ⟨HsR, Ha⟩
    rw [wp_seq_nil]
    imodintro
    iapply Hk
    isplitl [HO Ha]
    · isplitl [HO]; · iexact HO
      iexact Ha
    isplitl [Hz]; · iexact Hz
    isplitl [HC]; · iexact HC
    isplitl [HsR]; · iexact HsR
    iexact HsL
  · have e : hop c q h = [recvStep c h, accStep (F := F) c q h] := by unfold hop; rw [dif_neg hh]
    have eT : after1 (sendT (F := F) c) h = iprop(emp) := dif_neg hh
    have eC : after1 (sendC (F := F) c) h = iprop(emp) := dif_neg hh
    have eO : hopsO c (h :: l) = hopsO c l := by rw [hopsO_cons, show hopO c h = 0 from dif_neg hh, zero_add]
    rw [e, eT, eC, whenP_congr (p := actR c h ∧ ¬ actF c h) (q := actR c h) ⟨fun a => And.left a, fun a => ⟨a, not_actF_last c h hh⟩⟩]
    rw [wp_seq_cons]
    iintro ⟨#Hctx, ⟨HO, Ha⟩, ⟨HR, -⟩, Hk⟩
    iapply (recv_step m ρ K c h l hl)
    isplitr; · iexact Hctx
    isplitl [HO]; · iexact HO
    isplitl [HR]; · iexact HR
    iintro ⟨HO, Hz, Hs⟩
    ihave Hs := (slot_halves_when c h _ _) $$ Hs
    icases Hs with ⟨HsL, HsR⟩
    rw [wp_seq_cons, eO]
    iapply (acc_step m ρ c q h fullShare.right s)
    isplitl [HsR]; · iexact HsR
    isplitl [Ha]; · iexact Ha
    iintro ⟨HsR, Ha⟩
    rw [wp_seq_nil]
    imodintro
    iapply Hk
    isplitl [HO Ha]
    · isplitl [HO]; · iexact HO
      iexact Ha
    isplitl [Hz]; · iexact Hz
    isplitr; · iempintro
    isplitl [HsR]; · iexact HsR
    iexact HsL

end Cert.Chain

end
-- ==== Proof.Body.lean ====
/-
# The body of one device

The rules of the steps, put together: from the device's share of the protocol and its buffers, the body ends owing nothing, with every counter zero,
every buffer whole again and the result in its place.
-/
module

public import proofs.«01_k».proof.Proof.Local
public import Idealize.ShloMosaic.Lib.Ring

@[expose] public section

noncomputable section

namespace Cert.Chain

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Kd → ℕ)

/-! ## More about conjunctions over a list -/

omit [FloatOps F] in
theorem all_unsep {ι : Type} (l : List ι) (R S : ι → sProp 𝕄) : all l (fun i => iprop(R i ∗ S i)) ⊢ iprop(all l R ∗ all l S) := by
  induction l with
  | nil => simp only [all_nil]; iintro -; isplitl <;> iempintro
  | cons i l ih =>
    simp only [all_cons]
    iintro ⟨⟨Ha, Hb⟩, H⟩
    ihave H := ih $$ H
    icases H with ⟨Hl, Hm⟩
    isplitl [Ha Hl]
    · isplitl [Ha]; · iexact Ha
      iexact Hl
    isplitl [Hb]; · iexact Hb
    iexact Hm

omit [FloatOps F] in
theorem all_emp {ι : Type} (l : List ι) (R : ι → sProp 𝕄) (h : ∀ j ∈ l, R j = iprop(emp)) : (iprop(emp) : sProp 𝕄) ⊢ all l R := by
  induction l with
  | nil => exact BI.Entails.refl _
  | cons i l ih =>
    rw [all_cons, h i List.mem_cons_self]
    iintro -
    isplitr; · iempintro
    iapply (ih fun j hj => h j (List.mem_cons_of_mem _ hj)); iempintro

omit [FloatOps F] in
/-- A family with one member that is not nothing. -/
theorem all_single {ι : Type} [DecidableEq ι] (l : List ι) (hl : l.Nodup) (i : ι) (hi : i ∈ l) (R : ι → sProp 𝕄) (h : ∀ j, j ≠ i → R j = iprop(emp)) :
    R i ⊢ all l R := by
  induction l with
  | nil => exact absurd hi List.not_mem_nil
  | cons j l ih =>
    have hn := List.nodup_cons.mp hl
    rw [all_cons]
    by_cases e : j = i
    · subst e
      iintro H
      isplitl [H]; · iexact H
      iapply (all_emp l R fun k hk => h k fun e => hn.1 (e ▸ hk)); iempintro
    · rw [h j e]
      iintro H
      isplitr; · iempintro
      iapply (ih hn.2 ((List.mem_cons.mp hi).resolve_left fun e' => e e'.symm)); iexact H

/-! ## A device's share of the protocol -/

/-- The token of the signal to device `t`. -/
def barK (c t : Dev nD) : sProp 𝕄 := whenP (t ≠ c) (dutyTok ER (barCell t) 0 c)
/-- The tokens of send number `h`: its own duty and the landing's. -/
def sendK (c : Dev nD) (h : Fin 31) : sProp 𝕄 := whenP (actS c h) iprop(dutyTok ER (sendCell c h) 0 0 ∗ dutyTok ER (recvCell (nxt c) h) 0 0)
/-- The ghost state device `c` starts from: its positions in its cells and the tokens it pays with. -/
def ghost (c : Dev nD) : sProp 𝕄 :=
  iprop(atPos ER (barCell c) 0 ∅ 0 ∗ all (List.finRange 31) (fun h => atPos ER (sendCell c h) 0 ∅ 0) ∗ all (List.finRange 31) (fun h => atPos ER (recvCell c h) 0 ∅ 0)
    ∗ all (List.finRange 32) (barK c) ∗ all (List.finRange 31) (sendK c))
/-- The credits it waits with. -/
def credits (c : Dev nD) : sProp 𝕄 :=
  iprop(cred (tallyAt (barCell c) () 31) ∗ all (List.finRange 31) (fun h => whenP (actR c h) (cred (tallyAt (recvCell c h) () N))))
/-- The counters it ends with. -/
def sems (c : Dev nD) : sProp 𝕄 :=
  iprop(semVal (barCell c) 0 ∗ all (List.finRange 31) (fun h => semVal (sendCell c h) 0) ∗ all (List.finRange 31) (fun h => semVal (recvCell c h) 0))
/-- The four scratch buffers, whatever they hold. -/
def scratch (c : Dev nD) : sProp 𝕄 :=
  iprop((∃ f, bufPts c cc0_scratch0 f) ∗ (∃ f, bufPts c cc0_scratch1 f) ∗ (∃ f, bufPts c cc0_scratch2 f) ∗ (∃ f, bufPts c cc0_scratch3 f))
/-- The five inputs, as copied in. -/
def inputs (c : Dev nD) : sProp 𝕄 :=
  iprop(bufPts c cc0_stg0_0 (xStg m ρ c) ∗ bufPts c cc0_stg1_0 (wqStg m ρ c) ∗ bufPts c cc0_stg2_0 (kStg m ρ c) ∗ bufPts c cc0_stg3_0 (vStg m ρ c)
    ∗ bufPts c cc0_stg4_0 (woStg m ρ c))

/-- The scaled queries of device `c`. -/
def qOf (c : Dev nD) : FVec F S8x128x64 .bf16 := k0_pay3 (xStg m ρ c) (wqStg m ρ c)
/-- The accumulators after the hops of a list. -/
def accAt (c : Dev nD) (l : List (Fin 31)) : Acc F := l.foldl (fun s h => nextA m ρ c (qOf m ρ c) h s) (ownA m ρ c (qOf m ρ c))
/-- The kernel's result on device `c`. -/
def outAt (c : Dev nD) : (cc0_stg5_0 : Ref sig .tc).ty.Contents (Elt F) :=
  k0_pay105 (k0_pay104 (accAt m ρ c (List.finRange 31)).1 (accAt m ρ c (List.finRange 31)).2) (woStg m ρ c)

/-! ## Handing the slots around -/

/-- The slots that device `c` keeps. -/
def keep (c : Dev nD) (h : Fin 31) : sProp 𝕄 := whenP (¬ actR c h) iprop(∃ f, slotPts c h fullShare f)

/-- The positions of slot `h` in device `c`'s landing buffer. -/
abbrev slotSet (c : Dev nD) (h : Fin 31) : Finset (Idx ((c : Thread nD τ).loc cc0_scratch1)) := (slotM h).view.set
theorem slotSet_disjoint (c : Dev nD) (h h' : Fin 31) (hn : h ≠ h') : Disjoint (slotSet c h) (slotSet c h') := slots_disjoint h h' hn
theorem slotSet_cover (c : Dev nD) : Finset.univ.biUnion (slotSet c) = Finset.univ :=
  Finset.eq_univ_iff_forall.mpr fun i => Finset.mem_biUnion.mpr ⟨⟨(i 0).val, (i 0).isLt⟩, Finset.mem_univ _, (mem_slot _ i).mpr rfl⟩

omit [FloatOps F] in
theorem slots_open (c : Dev nD) (f : (cc0_scratch1 : Ref sig .tc).ty.Contents (Elt F)) :
    bufPts c cc0_scratch1 f ⊢ iprop(gave c ∗ all (List.finRange 31) (keep c)) := by
  have e : (bufPts c cc0_scratch1 f : sProp 𝕄) = all (List.finRange 31) (fun h => slotPts c h fullShare f) := by
    rw [← bigSep_fin]
    exact Ring.pointsTo_blocks (slotSet c) (slotSet_disjoint c) (slotSet_cover c) f
  rw [e]
  refine BI.Entails.trans (all_mono _ _ (fun h => iprop(whenP (actR c h) iprop(∃ f, slotPts c h fullShare f) ∗ keep c h)) fun h => ?_) (all_unsep _ _ _)
  unfold keep
  by_cases ha : actR c h
  · rw [whenP_pos ha, whenP_neg (not_not.mpr ha)]
    iintro H
    isplitl [H]; · iexists f; iexact H
    iempintro
  · rw [whenP_neg ha, whenP_pos ha]
    iintro H
    isplitr; · iempintro
    iexists f; iexact H

omit [FloatOps F] in
theorem slots_close (c : Dev nD) (f₀ : (cc0_scratch1 : Ref sig .tc).ty.Contents (Elt F)) :
    all (F := F) (List.finRange 31) (fun h => iprop(∃ f, slotPts c h fullShare f)) ⊢ iprop(∃ f, bufPts (F := F) c cc0_scratch1 f) := by
  rw [← bigSep_fin]
  exact Ring.pointsTo_blocks_join_exists (slotSet c) (slotSet_disjoint c) (slotSet_cover c) f₀

omit [FloatOps F] in
theorem sigs_in (c : Dev nD) : iprop(all (F := F) (List.finRange 32) (barK c) ∗ gave c) ⊢ all (List.finRange 32) (sigR (F := F) c) := by
  have e : gave (F := F) c ⊢ all (List.finRange 32) (fun t : Dev nD => whenP (c = nxt t) (gave c)) := by
    refine BI.Entails.trans (Entails.of_eq (whenP_pos (nxt_prv c).symm _).symm)
      (all_single (List.finRange 32) (List.nodup_finRange 32) (prv c) (List.mem_finRange _) (fun t : Dev nD => whenP (c = nxt t) (gave c)) fun t ht => ?_)
    exact whenP_neg (fun e => ht (by rw [e, prv_nxt])) _
  iintro ⟨H, Hg⟩
  ihave Hg := e $$ Hg
  iapply (all_mono (List.finRange 32) (fun t => iprop(barK c t ∗ whenP (c = nxt t) (gave c))) (sigR c) fun t => ?_)
  · unfold barK sigR
    by_cases ht : t = c
    · subst ht
      rw [whenP_neg (not_not.mpr rfl), whenP_neg (not_not.mpr rfl), whenP_neg (fun e => nxt_ne t e.symm)]
      iintro -; iempintro
    · rw [whenP_pos ht, whenP_pos ht]
  iapply (all_sep (List.finRange 32) (barK c) (fun t => whenP (c = nxt t) (gave c)))
  isplitl [H]; · iexact H
  iexact Hg

omit [FloatOps F] in
theorem sends_in (c : Dev nD) : iprop(all (F := F) (List.finRange 31) (sendK c) ∗ gave (nxt c)) ⊢ all (List.finRange 31) (sendT (F := F) c) := by
  unfold gave
  refine BI.Entails.trans (all_sep _ _ _) (all_mono _ _ _ fun h => ?_)
  unfold sendK sendT
  by_cases ha : actS c h
  · rw [whenP_pos ha, whenP_pos ha, whenP_pos ha]
    iintro ⟨⟨H1, H2⟩, H3⟩
    isplitl [H1]; · iexact H1
    isplitl [H2]; · iexact H2
    iexact H3
  · rw [whenP_neg ha, whenP_neg ha, whenP_neg ha]; iintro -; iempintro

/-- What the waits for the sends give back. -/
def back (c : Dev nD) (h : Fin 31) : sProp 𝕄 := whenP (actS c h) (srcPts m ρ c h fullShare.left)

theorem after1_back (c : Dev nD) (h : Fin 31) : after1 (back m ρ c) h = whenP (actF c h) (slotPts c h fullShare.left (commOf m ρ c)) := by
  by_cases hh : h.val < 30
  · obtain ⟨h', rfl⟩ : ∃ h' : Fin 30, h = h'.castSucc := ⟨⟨h.val, hh⟩, rfl⟩
    refine (show after1 (back m ρ c) h'.castSucc = back m ρ c h'.succ from dif_pos hh).trans ?_
    unfold back
    rw [whenP_congr (actF_iff c h')]
    rfl
  · rw [whenP_neg (not_actF_last c h hh)]; exact dif_neg hh

/-- A slot is whole again at the end. -/
theorem slot_whole (c : Dev nD) (h : Fin 31) :
    iprop((keep c h ∗ after1 (back m ρ c) h) ∗ (whenP (actR c h) (slotPts c h fullShare.right (commOf m ρ c)) ∗ whenP (actR c h ∧ ¬ actF c h) (slotPts c h fullShare.left (commOf m ρ c))))
      ⊢ iprop(∃ f, slotPts c h fullShare f) := by
  rw [after1_back]
  unfold keep
  by_cases ha : actR c h
  · rw [whenP_neg (p := ¬ actR c h) (not_not.mpr ha), whenP_pos (p := actR c h) ha]
    by_cases hf : actF c h
    · rw [whenP_pos (p := actF c h) hf, whenP_neg (p := actR c h ∧ ¬ actF c h) (fun hn => hn.2 hf)]
      iintro ⟨⟨-, HL⟩, HR, -⟩
      iexists (commOf m ρ c)
      iapply (slot_halves c h _).2
      isplitl [HL]; · iexact HL
      iexact HR
    · rw [whenP_neg (p := actF c h) hf, whenP_pos (p := actR c h ∧ ¬ actF c h) ⟨ha, hf⟩]
      iintro ⟨-, HR, HL⟩
      iexists (commOf m ρ c)
      iapply (slot_halves c h _).2
      isplitl [HL]; · iexact HL
      iexact HR
  · rw [whenP_pos (p := ¬ actR c h) ha]
    iintro ⟨⟨H, -⟩, -⟩
    iexact H

/-- The own block is whole again at the end. -/
theorem kv_whole (c : Dev nD) :
    iprop(kvPts c fullShare.right (kvT m ρ c) ∗ whenP (¬ actS c 0) (kvPts c fullShare.left (kvT m ρ c)) ∗ back m ρ c 0) ⊢ bufPts c cc0_scratch0 (kvT m ρ c) := by
  rw [← kvPts_eq, show back m ρ c 0 = whenP (actS c 0) (kvPts c fullShare.left (kvT m ρ c)) from rfl]
  by_cases ha : actS c 0
  · rw [whenP_pos (p := actS c 0) ha, whenP_neg (p := ¬ actS c 0) (not_not.mpr ha)]
    iintro ⟨HR, -, HL⟩
    iapply (kv_halves c _).2
    isplitl [HL]; · iexact HL
    iexact HR
  · rw [whenP_neg (p := actS c 0) ha, whenP_pos (p := ¬ actS c 0) ha]
    iintro ⟨HR, HL, -⟩
    iapply (kv_halves c _).2
    isplitl [HL]; · iexact HL
    iexact HR

/-! ## The body -/

/-- The steps after the queries are known, hop by hop. -/
theorem tail_eq (c : Dev nD) (q : FVec F S8x128x64 .bf16) (o : BProg F PUnit) (l : List (BProg F PUnit)) (p : BProg F PUnit) :
    seq (ownStep q :: (List.finRange 31).flatMap (hop c q) ++ o :: l) p = seq [ownStep q] (seq ((List.finRange 31).map (hopStep c q)) (seq [o] (seq l p))) := by
  rw [← seq_hops, seq_append, seq_append, seq_append]
  rfl

/-- The body as loops. -/
theorem body_eq_seq (c : Dev nD) : body (F := F) c = seq ((List.finRange 32).map (sigStep c)) (seq [barStep, kvStep, sendStep c] do
    let x : Vec F S2x128x512 .f32 ← Prog.lift (.load xM rX.toLoadRect (View.loadsAt_vmem h_S2x128x512))
    let wq : Vec F S512x256 .f32 ← Prog.lift (.load wqM rWq.toLoadRect (View.loadsAt_vmem h_S512x256))
    seq [ownStep (k0_pay3 x wq)] (seq ((List.finRange 31).map (hopStep c (k0_pay3 x wq))) (seq [outStep] (seq ((List.finRange 31).map (sentStep c)) (pure ⟨⟩))))) := by
  refine (seq_append _ _ _).symm.trans (congrArg _ (congrArg _ (bind_congr fun x => bind_congr fun wq => ?_)))
  exact tail_eq c _ _ _ _

theorem sigsO_cons (c t : Dev nD) (l : List (Dev nD)) : sigsO c (t :: l) = barO c t + sigsO c l := by
  unfold sigsO; rw [List.map_cons, List.sum_cons, add_assoc]

set_option maxHeartbeats 4000000 in
/-- The body: from the start to its end. -/
theorem sound_body (c : Dev nD) (Ψ : PUnit → sProp 𝕄) :
    iprop(ctx m ρ K ∗ owesE c (O₀ c) ∗ ghost c ∗ credits c ∗ scratch c ∗ inputs m ρ c ∗ (∃ g, bufPts c cc0_stg5_0 g)
        ∗ (owesE c 0 ∗ sems c ∗ scratch c ∗ inputs m ρ c ∗ bufPts c cc0_stg5_0 (outAt m ρ c) -∗ Ψ ⟨⟩)) ⊢ WP c (body c) Ψ := by
  rw [body_eq_seq]
  unfold ghost credits scratch inputs
  iintro ⟨#Hctx, HO, ⟨HatB, HatS, HatR, HbarK, HsendK⟩, ⟨HcB, HcR⟩, ⟨⟨%f0, Hs0⟩, ⟨%f1, Hs1⟩, ⟨%f2, Hs2⟩, ⟨%f3, Hs3⟩⟩, ⟨Hx, Hwq, HK, HV, Hwo⟩, ⟨%g, Hout⟩, Hk⟩
  ihave H := (slots_open c f1) $$ Hs1
  icases H with ⟨Hgave, Hkeep⟩
  -- the signals
  iapply (wp_loop c (ctx m ρ K) (sigStep c) (fun _ s => s) (fun l (_ : Unit) => owesE c (sigsO c l)) (sigR c) (fun _ => iprop(emp))
    (fun t l s Ψ _ => by
      rw [sigsO_cons]
      iintro ⟨#Hctx, HO, HR, Hk⟩
      iapply (sig_step m ρ K c t (sigsO c l))
      isplitr; · iexact Hctx
      isplitl [HO]; · iexact HO
      isplitl [HR]; · iexact HR
      iintro HO
      iapply Hk
      isplitl [HO]; · iexact HO
      iempintro) _ Ψ (List.finRange 32) (finRange_sorted 32) ())
  isplitr; · iexact Hctx
  isplitl [HO]; · iexact HO
  isplitl [HbarK Hgave]
  · iapply (sigs_in c)
    isplitl [HbarK]; · iexact HbarK
    iexact Hgave
  iintro ⟨HO, -⟩
  rw [show sigsO c [] = recvO c 0 + hopsO c (List.finRange 31) from zero_add _]
  -- the barrier
  rw [wp_seq_cons]
  iapply (bar_step m ρ K c)
  isplitr; · iexact Hctx
  isplitl [HO]; · iexact HO
  isplitl [HatB HcB]
  · isplitl [HatB]; · iexact HatB
    iexact HcB
  iintro ⟨HO, HzB, HgaveN⟩
  ihave HT := (sends_in c) $$ [HsendK HgaveN]
  · isplitl [HsendK]; · iexact HsendK
    iexact HgaveN
  ihave HT := (all_shift (sendT c)).1 $$ HT
  icases HT with ⟨HT0, HTs⟩
  -- the own keys and values, and their send
  rw [wp_seq_cons]
  iapply (kv_step m ρ c f0)
  isplitl [HK]; · iexact HK
  isplitl [HV]; · iexact HV
  isplitl [Hs0]; · iexact Hs0
  iintro ⟨HK, HV, Hkv⟩
  ihave Hkv := (kv_halves c _).1 $$ Hkv
  icases Hkv with ⟨HkvL, HkvR⟩
  rw [wp_seq_cons]
  iapply (send_step m ρ K c _ (hopsO c (List.finRange 31)))
  isplitr; · iexact Hctx
  isplitl [HO]; · iexact HO
  isplitl [HkvL]; · iexact HkvL
  isplitl [HT0]; · iexact HT0
  iintro ⟨HO, HC0, HkvL⟩
  -- the queries
  simp only [seq, Prog.lift, Prog.bind_op, Prog.bind_ret]
  unfold WP
  iapply (wp_load 𝒱₀ (c : Thread nD τ) none Set.univ (m := xM) (Finset.subset_univ _)) $$ Hx; iintro Hx
  rw [read_x]
  iapply (wp_load 𝒱₀ (c : Thread nD τ) none Set.univ (m := wqM) (Finset.subset_univ _)) $$ Hwq; iintro Hwq
  rw [read_wq]
  rw [show k0_pay3 (xStg m ρ c) (wqStg m ρ c) = qOf m ρ c from rfl, wp_bind]
  -- the own block
  iapply (own_step m ρ c (qOf m ρ c) fullShare.right (f2, f3))
  isplitl [HkvR]; · iexact HkvR
  isplitl [Hs2 Hs3]
  · unfold accPts
    isplitl [Hs2]; · iexact Hs2
    iexact Hs3
  iintro ⟨HkvR, Ha⟩
  -- the hops
  iapply (wp_loop c (ctx m ρ K) (hopStep c (qOf m ρ c)) (nextA m ρ c (qOf m ρ c)) (fun l s => iprop(owesE c (hopsO c l) ∗ accPts c s)) (hopR c) (hopQ m ρ c)
    (fun h l s Ψ hl => hop_step m ρ K c (qOf m ρ c) h l s Ψ hl) _ Ψ (List.finRange 31) (finRange_sorted 31) (ownA m ρ c (qOf m ρ c)))
  isplitr; · iexact Hctx
  isplitl [HO Ha]
  · isplitl [HO]; · iexact HO
    iexact Ha
  isplitl [HatR HcR HTs]
  · unfold hopR recvR
    iapply (all_sep (List.finRange 31) (fun h => iprop(atPos ER (recvCell c h) 0 ∅ 0 ∗ whenP (actR c h) (cred (tallyAt (recvCell c h) () N)))) (after1 (sendT c)))
    isplitl [HatR HcR]
    · iapply (all_sep (List.finRange 31) (fun h => atPos ER (recvCell c h) 0 ∅ 0) (fun h => whenP (actR c h) (cred (tallyAt (recvCell c h) () N))))
      isplitl [HatR]; · iexact HatR
      iexact HcR
    iexact HTs
  iintro ⟨⟨HO, Ha⟩, HQ⟩
  rw [show hopsO c [] = 0 from rfl]
  unfold hopQ
  ihave HQ := (all_unsep (List.finRange 31) _ _) $$ HQ
  icases HQ with ⟨HzR, HQ⟩
  ihave HQ := (all_unsep (List.finRange 31) _ _) $$ HQ
  icases HQ with ⟨HCs, HQ⟩
  -- the result
  unfold WP
  rw [wp_bind]
  iapply (out_step m ρ c _ g)
  isplitl [Ha]; · iexact Ha
  isplitl [Hwo]; · iexact Hwo
  isplitl [Hout]; · iexact Hout
  iintro ⟨Ha, Hwo, Hout⟩
  -- the sends have left
  iapply (wp_loop c (ctx m ρ K) (sentStep c) (fun _ s => s) (fun _ (_ : Unit) => owesE c 0) (sentR c) (sentQ m ρ c)
    (fun h l s Ψ _ => sent_step m ρ K c h Ψ) _ Ψ (List.finRange 31) (finRange_sorted 31) ())
  isplitr; · iexact Hctx
  isplitl [HO]; · iexact HO
  isplitl [HatS HC0 HCs]
  · unfold sentR
    iapply (all_sep (List.finRange 31) (fun h => atPos ER (sendCell c h) 0 ∅ 0) (sendC c))
    isplitl [HatS]; · iexact HatS
    iapply (all_shift (sendC c)).2
    isplitl [HC0]; · iexact HC0
    iexact HCs
  iintro ⟨HO, HQ'⟩
  rw [show sentQ m ρ c = fun h => iprop(semVal (sendCell c h) 0 ∗ back m ρ c h) from rfl]
  ihave HQ' := (all_unsep (List.finRange 31) _ _) $$ HQ'
  icases HQ' with ⟨HzS, HB⟩
  ihave HB := (all_shift (back m ρ c)).1 $$ HB
  icases HB with ⟨HB0, HBs⟩
  unfold WP
  rw [Prog.pure_eq_ret, wp_ret]
  imodintro
  iapply Hk
  isplitl [HO]; · iexact HO
  isplitl [HzB HzS HzR]
  · unfold sems
    isplitl [HzB]; · iexact HzB
    isplitl [HzS]; · iexact HzS
    iexact HzR
  isplitl [HkvR HkvL HB0 Hkeep HBs HQ Ha]
  · isplitl [HkvR HkvL HB0]
    · iexists (kvT m ρ c)
      iapply (kv_whole m ρ c)
      isplitl [HkvR]; · iexact HkvR
      isplitl [HkvL]; · iexact HkvL
      iexact HB0
    isplitl [Hkeep HBs HQ]
    · iapply (slots_close c (commOf m ρ c))
      iapply (all_mono (List.finRange 31) _ _ (slot_whole m ρ c))
      iapply (all_sep (List.finRange 31) (fun h => iprop(keep c h ∗ after1 (back m ρ c) h))
        (fun h => iprop(whenP (actR c h) (slotPts c h fullShare.right (commOf m ρ c)) ∗ whenP (actR c h ∧ ¬ actF c h) (slotPts c h fullShare.left (commOf m ρ c)))))
      isplitl [Hkeep HBs]
      · iapply (all_sep (List.finRange 31) (keep c) (after1 (back m ρ c)))
        isplitl [Hkeep]; · iexact Hkeep
        iexact HBs
      iexact HQ
    unfold accPts
    icases Ha with ⟨Ha, Hl⟩
    isplitl [Ha]; · iexists _; iexact Ha
    iexists _; iexact Hl
  isplitl [Hx Hwq HK HV Hwo]
  · isplitl [Hx]; · iexact Hx
    isplitl [Hwq]; · iexact Hwq
    isplitl [HK]; · iexact HK
    isplitl [HV]; · iexact HV
    iexact Hwo
  iexact Hout

end Cert.Chain

end
-- ==== Proof.Launch.lean ====
/-
# The launch: what each device's body starts from

The tokens and positions of all cells are minted at once; each token goes to the device that pays its duty. The credit a device waits with is what
the others owe it.
-/
module

public import proofs.«01_k».proof.Proof.Body

@[expose] public section

noncomputable section

namespace Cert.Chain

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## A sum over a device's cells, kind by kind -/

omit [FloatOps F] in
theorem bigSep_own (Φ : Bool × Fin 31 → sProp 𝕄) :
    bigSep Finset.univ Φ = iprop(all (List.finRange 31) (fun h => Φ (false, h)) ∗ all (List.finRange 31) (fun h => Φ (true, h))) := by
  rw [bigSep_univ_prod, bigSep_univ_eq_bigSepL [false, true] (by decide) (by decide)]
  show iprop(bigSep Finset.univ (fun h => Φ (false, h)) ∗ bigSep Finset.univ (fun h => Φ (true, h))) = _
  rw [bigSep_fin, bigSep_fin]
omit [FloatOps F] in
theorem bigSep_kd (Φ : Kd → sProp 𝕄) :
    bigSep Finset.univ Φ
      = iprop(Φ none ∗ all (List.finRange 31) (fun h => Φ (some (false, h))) ∗ all (List.finRange 31) (fun h => Φ (some (true, h)))) := by
  have e : (Finset.univ : Finset Kd).erase none = Finset.univ.map Function.Embedding.some := by
    ext k; cases k <;> simp
  rw [bigSep_univ_at Φ none, e, bigSep_map, bigSep_own]; rfl
omit [FloatOps F] in
theorem bigSep_swap {α β : Type} [Fintype α] [Fintype β] (Φ : α → β → sProp 𝕄) :
    bigSep Finset.univ (fun a => bigSep Finset.univ (Φ a)) = bigSep Finset.univ (fun b => bigSep Finset.univ fun a => Φ a b) := by
  rw [← bigSep_univ_prod (fun p : α × β => Φ p.1 p.2), ← bigSep_univ_prod (fun p : β × α => Φ p.2 p.1),
    bigSep_univ_equiv (Equiv.prodComm β α) (fun p : α × β => Φ p.1 p.2)]
  rfl

/-! ## Minting -/

theorem kcell_injective : Function.Injective (kcell : Dev nD × Kd → GSem nD τ sig) := by
  rintro ⟨c, k⟩ ⟨c', k'⟩ h
  have h1 : c = c' := congrArg (fun g : GSem nD τ sig => g.1.1) h
  have h2 : k = k' := csem_inj (congrArg Prod.snd h)
  rw [h1, h2]
def chainCells : Finset (GSem nD τ sig) := Finset.univ.map ⟨kcell, kcell_injective⟩

/-- A token for every cell and every device. Those of duties there are not stay unused. -/
abbrev tokOf (x : (Dev nD × Kd) × Dev nD) : GSem nD τ sig × ℕ × Dev nD := (kcell x.1, 0, x.2)
theorem tokOf_injective : Function.Injective tokOf := by
  rintro ⟨k, d⟩ ⟨k', d'⟩ h
  have h1 : k = k' := kcell_injective (congrArg Prod.fst h)
  have h2 : d = d' := congrArg (fun x => x.2.2) h
  rw [h1, h2]
def chainToks : Finset (GSem nD τ sig × ℕ × Dev nD) := Finset.univ.map ⟨tokOf, tokOf_injective⟩

def u₀ : UU :=
  (initOf (Pipeline.cells cfgs cellOf_inj) (Pipeline.launchToks cfgs cellOf_inj), initOf chainCells chainToks)

/-- The tokens of device `c`'s own cells. -/
def toks (c : Dev nD) : sProp 𝕄 := bigSep Finset.univ fun k : Kd => bigSep Finset.univ fun d : Dev nD => dutyTok ER (kcell (c, k)) 0 d

/-- What the launch deals device `c`. -/
def G (c : Dev nD) : sProp 𝕄 :=
  iprop((bigSep Finset.univ fun k : Kd => roundState ER (rd m ρ) (kcell (c, k)) 0)
    ∗ (bigSep Finset.univ fun k : Kd => iprop(atPos ER (kcell (c, k)) 0 ∅ 0 ∗ reached ER (kcell (c, k)) 0)) ∗ toks c)
/-- What the devices make of it together. -/
def G' (c : Dev nD) : sProp 𝕄 := iprop(∃ K, records m ρ K ∗ ghost c)

theorem fund_chain : BI.own (ER (initOf chainCells chainToks)) ⊢ (|==> bigSep Finset.univ (G m ρ) : sProp 𝕄) := by
  have hX (Φ : GSem nD τ sig → sProp 𝕄) : bigSep chainCells Φ = bigSep Finset.univ fun c : Dev nD => bigSep Finset.univ fun k : Kd => Φ (kcell (c, k)) := by
    unfold chainCells; rw [bigSep_map, bigSep_univ_prod]; rfl
  have hT : bigSep chainToks (fun x => (dutyTok ER x.1 x.2.1 x.2.2 : sProp 𝕄)) = bigSep Finset.univ fun c : Dev nD => toks c := by
    unfold chainToks; rw [bigSep_map, bigSep_univ_prod, bigSep_univ_prod]; rfl
  iintro HX
  imod (Rounds.fund ER (rd m ρ) chainCells chainToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Each token to the device that pays -/

/-- The tokens device `c` pays with. -/
def payToks (c : Dev nD) : sProp 𝕄 := iprop(all (List.finRange 32) (barK c) ∗ all (List.finRange 31) (sendK c))

omit [FloatOps F] in
theorem whenP_drop (p : Prop) [Decidable p] (X : sProp 𝕄) : X ⊢ whenP p X := by
  by_cases h : p
  · rw [whenP_pos h]
  · rw [whenP_neg h]; iintro -; iempintro

/-- A device's own tokens, kind by kind; the send and receive cells keep the token of duty 0. -/
theorem toks_kinds (c : Dev nD) :
    (toks c : sProp 𝕄) ⊢ iprop((bigSep Finset.univ fun d : Dev nD => dutyTok ER (barCell c) 0 d)
      ∗ (bigSep Finset.univ fun h : Fin 31 => dutyTok ER (sendCell c h) 0 0) ∗ (bigSep Finset.univ fun h : Fin 31 => dutyTok ER (recvCell c h) 0 0)) := by
  unfold toks
  rw [bigSep_kd, bigSep_fin 31, bigSep_fin 31]
  iintro ⟨HB, HS, HR⟩
  isplitl [HB]; · iexact HB
  isplitl [HS]
  · iapply (all_mono (List.finRange 31) (fun h => bigSep Finset.univ fun d : Dev nD => (dutyTok ER (sendCell c h) 0 d : sProp 𝕄)) _ fun h =>
      bigSep_elim (Finset.mem_univ (0 : Dev nD)))
    iexact HS
  · iapply (all_mono (List.finRange 31) (fun h => bigSep Finset.univ fun d : Dev nD => (dutyTok ER (recvCell c h) 0 d : sProp 𝕄)) _ fun h =>
      bigSep_elim (Finset.mem_univ (0 : Dev nD)))
    iexact HR

/-- From the three kinds, what the payer keeps. -/
theorem pay_kinds (c : Dev nD) :
    iprop((bigSep Finset.univ fun t : Dev nD => (dutyTok ER (barCell t) 0 c : sProp 𝕄))
      ∗ (bigSep Finset.univ fun h : Fin 31 => dutyTok ER (sendCell c h) 0 0) ∗ (bigSep Finset.univ fun h : Fin 31 => dutyTok ER (recvCell (nxt c) h) 0 0))
      ⊢ payToks c := by
  unfold payToks
  rw [← bigSep_sep', bigSep_fin 31, ← bigSep_fin 32 (barK c)]
  refine BIClass.sep_mono (bigSep_mono fun t _ => by unfold barK; exact whenP_drop _ _) (all_mono _ _ _ fun h => by unfold sendK; exact whenP_drop _ _)

theorem toks_around : (bigSep Finset.univ fun c : Dev nD => (toks c : sProp 𝕄)) ⊢ bigSep Finset.univ fun c : Dev nD => payToks c := by
  have h1 : (bigSep Finset.univ fun c : Dev nD => (toks c : sProp 𝕄)) ⊢ _ := bigSep_mono fun c _ => toks_kinds c
  have h2 : _ ⊢ (bigSep Finset.univ fun c : Dev nD => (payToks c : sProp 𝕄)) := bigSep_mono fun c _ => pay_kinds c
  refine BIBase.Entails.trans h1 (BIBase.Entails.trans (Entails.of_eq ?_) h2)
  rw [bigSep_sep', bigSep_sep', bigSep_sep', bigSep_sep', bigSep_swap (fun c d : Dev nD => (dutyTok ER (barCell c) 0 d : sProp 𝕄)),
    bigSep_univ_equiv ring (fun c : Dev nD => bigSep Finset.univ fun h : Fin 31 => (dutyTok ER (recvCell c h) 0 0 : sProp 𝕄))]
  rfl

/-! ## The cells' invariants -/

omit [FloatOps F] in
theorem ownSems0_eq (c : Dev nD) : (Pipeline.ownSems0 (Ix := Unit) (Name := ℕ) (U := UU) (Lvl := ℕ) (Val := Elt F) (τ := τ) osem c : sProp 𝕄)
    = iprop(all (List.finRange 31) (fun h => semVal (sendCell c h) 0) ∗ all (List.finRange 31) (fun h => semVal (recvCell c h) 0)) := by
  unfold Pipeline.ownSems0; rw [bigSep_own]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Kd => semVal (kcell (c, k)) 0 : sProp 𝕄) := by
  rw [ownSems0_eq, unscopedSems0_eq, bigSep_kd]
  iintro ⟨⟨HS, HV⟩, HB⟩
  isplitl [HB]; · iexact HB
  isplitl [HS]; · iexact HS
  iexact HV

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Kd => semVal (kcell (c, k)) 0) ∗ bigSep Finset.univ fun k : Kd => roundState ER (rd m ρ) (kcell (c, k)) 0)
      ⊢ (|={Set.univ}=> bigSep Finset.univ fun k => iprop(∃ κ : ℕ, cellInv ER (rd m ρ) κ (kcell (c, k))) : sProp 𝕄) from by
        rw [← bigSep_sep']
        exact (bigSep_mono fun k _ => (Rounds.body_intro ER (rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × Kd → ℕ) (c : Dev nD) :
    iprop(records m ρ K ∗ (bigSep Finset.univ fun k : Kd => atPos ER (kcell (c, k)) 0 ∅ 0) ∗ payToks c) ⊢ G' m ρ c := by
  unfold G' ghost payToks
  rw [bigSep_kd]
  iintro ⟨#HI, ⟨HaB, HaS, HaR⟩, HtB, HtS⟩
  iexists K
  isplitr; · iexact HI
  isplitl [HaB]; · iexact HaB
  isplitl [HaS]; · iexact HaS
  isplitl [HaR]; · iexact HaR
  isplitl [HtB] <;> iassumption

omit [FloatOps F] in
theorem bigSep_keep {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Kd => iprop(∃ κ : ℕ, cellInv ER (rd m ρ) κ (kcell ck))),
    bigSep_congr (s := Finset.univ) (fun (c : Dev nD) _ => bigSep_sep' Finset.univ (fun k : Kd => (atPos ER (kcell (c, k)) 0 ∅ 0 : sProp 𝕄)) (fun k => reached ER (kcell (c, k)) 0)),
    bigSep_sep', ← bigSep_univ_prod (fun ck : Dev nD × Kd => (reached ER (kcell ck) 0 : sProp 𝕄))]
  iintro ⟨HI, ⟨Hat, HR⟩, Htok⟩
  ihave HK := (BI.bigSep_exists_pi Finset.univ (fun (ck : Dev nD × Kd) (κ : ℕ) => (cellInv ER (rd m ρ) κ (kcell ck) : sProp 𝕄))) $$ HI
  icases HK with ⟨%K, HI⟩
  ihave Htk := (toks_around (F := F)) $$ Htok
  ihave Hrec := (show iprop((bigSep Finset.univ fun ck : Dev nD × Kd => cellInv ER (rd m ρ) (K ck) (kcell ck)) ∗ (bigSep Finset.univ fun ck : Dev nD × Kd => (reached ER (kcell ck) 0 : sProp 𝕄)))
      ⊢ records m ρ K from by unfold records; rw [← bigSep_sep']) $$ [HI HR]
  · isplitl [HI] <;> iassumption
  iapply (bigSep_keep (R := records m ρ K) fun c _ => ghost_intro m ρ K c)
  isplitl [Hrec]; · iexact Hrec
  rw [bigSep_sep']
  isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem sum_apply {ι : Type} (l : List ι) (f : ι → CellTallies nD τ sig Unit) (g : GSem nD τ sig) (u : Unit) :
    (l.map f).sum g u = (l.map fun i => f i g u).sum := by
  induction l with
  | nil => rfl
  | cons i l ih => rw [List.map_cons, List.sum_cons, List.map_cons, List.sum_cons, Pi.add_apply, Finsupp.add_apply, ih]

theorem sum_fin (n : ℕ) (f : Fin n → CellTallies nD τ sig Unit) (g : GSem nD τ sig) (u : Unit) :
    ((List.finRange n).map f).sum g u = ∑ i : Fin n, f i g u := by rw [sum_apply, Fin.sum_univ_def]

theorem kcell_eq_iff (c d : Dev nD) (k k' : Kd) : kcell (c, k) = kcell (d, k') ↔ c = d ∧ k = k' :=
  ⟨fun h => by have := kcell_injective h; exact ⟨congrArg Prod.fst this, congrArg Prod.snd this⟩, fun ⟨h, h'⟩ => by rw [h, h']⟩

theorem recvO_at (d c : Dev nD) (h : Fin 31) (k : Kd) :
    recvO d h (kcell (c, k)) () = if (nxt d = c ∧ some (true, h) = k) ∧ actS d h then N else 0 := by
  unfold recvO
  by_cases ha : actS d h
  · rw [if_pos ha, tallyAt_apply]
    by_cases hc : nxt d = c ∧ some (true, h) = k
    · rw [if_pos ⟨((kcell_eq_iff (nxt d) c (some (true, h)) k).mpr hc).symm, rfl⟩, if_pos ⟨hc, ha⟩]
    · rw [if_neg (fun e => hc ((kcell_eq_iff (nxt d) c (some (true, h)) k).mp e.1.symm)), if_neg fun e => hc e.1]
  · rw [if_neg ha, if_neg fun e => ha e.2]; rfl
theorem barO_at (d t c : Dev nD) (k : Kd) : barO d t (kcell (c, k)) () = if (t = c ∧ k = none) ∧ t ≠ d then 1 else 0 := by
  unfold barO
  by_cases ha : t = d
  · rw [if_pos ha, if_neg fun e => e.2 ha]; rfl
  · rw [if_neg ha, tallyAt_apply]
    by_cases hc : t = c ∧ k = none
    · rw [if_pos ⟨((kcell_eq_iff t c none k).mpr ⟨hc.1, hc.2.symm⟩).symm, rfl⟩, if_pos ⟨hc, ha⟩]
    · rw [if_neg (fun e => hc (by have := (kcell_eq_iff t c none k).mp e.1.symm; exact ⟨this.1, this.2.symm⟩)), if_neg fun e => hc e.1]

/-- All a device owes at a cell: to a barrier, and to the next device's receive cells. -/
theorem owed_at (d c : Dev nD) (k : Kd) :
    O₀ d (kcell (c, k)) () = (∑ t : Fin 32, barO d t (kcell (c, k)) ()) + ∑ h : Fin 31, recvO d h (kcell (c, k)) () := by
  unfold O₀ sigsO hopsO
  rw [Pi.add_apply, Finsupp.add_apply, Pi.add_apply, Finsupp.add_apply, sum_fin, sum_fin]
  refine congrArg ((∑ t : Fin 32, barO d t (kcell (c, k)) ()) + ·) ?_
  refine Eq.trans ?_ (Fin.sum_univ_succ fun h : Fin 31 => recvO d h (kcell (c, k)) ()).symm
  refine congrArg (recvO d 0 (kcell (c, k)) () + ·) ?_
  refine (Fin.sum_univ_castSucc fun h : Fin 31 => hopO d h (kcell (c, k)) ()).trans ?_
  have e : hopO d (Fin.last 30) (kcell (c, k)) () = 0 := by unfold hopO; rw [dif_neg (by simp)]; rfl
  rw [e, Nat.add_zero]
  refine Finset.sum_congr rfl fun h _ => ?_
  unfold hopO; rw [dif_pos (show (h.castSucc).val < 30 from h.isLt)]; exact congrArg (fun i => recvO d i (kcell (c, k)) ()) (Fin.ext rfl)

theorem owed_bar (d c : Dev nD) : O₀ d (barCell c) () = if d = c then 0 else 1 := by
  rw [show barCell c = kcell (c, none) from rfl, owed_at, Finset.sum_congr rfl fun t _ => barO_at d t c none, Finset.sum_congr rfl fun h _ => recvO_at d c h none]
  rw [Finset.sum_eq_single c (fun t _ ht => if_neg fun e => ht e.1.1) (fun h => absurd (Finset.mem_univ _) h),
    Finset.sum_eq_zero fun h _ => if_neg fun e => by cases e.1.2]
  by_cases h : d = c
  · rw [if_pos h, if_neg fun e => e.2 h.symm, Nat.add_zero]
  · rw [if_neg h, if_pos ⟨⟨rfl, rfl⟩, fun e => h e.symm⟩, Nat.add_zero]

theorem owed_recv (d c : Dev nD) (h : Fin 31) : O₀ d (recvCell c h) () = if d = prv c then (if actR c h then N else 0) else 0 := by
  have e1 : (∑ t : Fin 32, barO d t (kcell (c, some (true, h))) ()) = 0 :=
    Finset.sum_eq_zero fun t _ => by rw [barO_at, if_neg fun e => by cases e.1.2]
  have e2 : (∑ i : Fin 31, recvO d i (kcell (c, some (true, h))) ()) = if (nxt d = c ∧ some (true, h) = some (true, h)) ∧ actS d h then N else 0 := by
    rw [Finset.sum_congr rfl fun i _ => recvO_at d c i (some (true, h))]
    exact Finset.sum_eq_single h (fun i _ hi => if_neg fun e => hi (by have := e.1.2; simpa using this)) (fun hn => absurd (Finset.mem_univ _) hn)
  rw [show recvCell c h = kcell (c, some (true, h)) from rfl, owed_at, e1, e2, Nat.zero_add]
  by_cases hd : d = prv c
  · subst hd
    rw [if_pos rfl]
    have : actS (prv c) h ↔ actR c h := by show actR (nxt (prv c)) h ↔ _; rw [nxt_prv]
    by_cases ha : actR c h
    · rw [if_pos ha, if_pos ⟨⟨nxt_prv c, rfl⟩, this.mpr ha⟩]
    · rw [if_neg ha, if_neg fun e => ha (this.mp e.2)]
  · rw [if_neg hd, if_neg fun e => hd (by rw [← e.1.1, prv_nxt])]

theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide
theorem launch_recv (c : Dev nD) (h : Fin 31) (ha : actR c h) :
    tallyOn (recvCell c h) (launchCredit (Pipeline.owing O₀) 0 (recvCell c h)) = (tallyAt (recvCell c h) () N : CellTallies nD τ sig Unit) := by
  unfold tallyAt; refine congrArg _ (Finsupp.ext fun u => ?_); cases u
  rw [Pipeline.launchCredit_owing, Finsupp.single_eq_same, Finset.sum_congr rfl fun d _ => owed_recv d c h,
    Finset.sum_eq_single (prv c) (fun d _ hd => if_neg hd) (fun h => absurd (Finset.mem_univ _) h), if_pos rfl, if_pos ha]

theorem creds (c : Dev nD) : (Pipeline.launchCred O₀ c : sProp 𝕄) ⊢ credits c := by
  unfold Pipeline.launchCred credits
  refine (bigSep_subset (Finset.subset_univ (Finset.univ.map ⟨csem, csem_inj⟩))).trans ?_
  rw [bigSep_map, bigSep_kd]
  show iprop(cred (tallyOn (barCell c) (launchCredit (Pipeline.owing O₀) 0 (barCell c))) ∗ _ ∗ all (List.finRange 31) fun h => cred (tallyOn (recvCell c h) (launchCredit (Pipeline.owing O₀) 0 (recvCell c h)))) ⊢ _
  rw [launch_bar]
  iintro ⟨HB, -, HR⟩
  isplitl [HB]; · iexact HB
  iapply (all_mono (List.finRange 31) (fun h => (cred (tallyOn (recvCell c h) (launchCredit (Pipeline.owing O₀) 0 (recvCell c h))) : sProp 𝕄)) _ fun h => by
    by_cases ha : actR c h
    · rw [whenP_pos ha, launch_recv c h ha]
    · rw [whenP_neg ha]; iintro -; iempintro)
  iexact HR

end Cert.Chain

end
-- ==== Proof.BodyEq.lean ====
/-
# The printed body is the list of its steps

Each printed part is a list of steps (`part1_eq`, …): the two texts unfold to the same operations. `body_eq` joins the parts.
-/
module

public import proofs.«01_k».proof.Proof.Steps

@[expose] public section

set_option synthInstance.maxSize 4096
set_option maxRecDepth 65536

noncomputable section

namespace Cert.Chain

open Cert.KernelIdeal Cert.KernelIdeal.Gen
open Idealize.ShloMosaic Idealize.SL.Sem

variable {F : FTy → Type} [FloatOps F]

/-- The arguments every part is called with: the kernel's own buffers and semaphores. -/
abbrev OnBufs (β : Type 1) : Type 1 :=
  (arg0 : Memref sig .tc .vmem S2x128x512 .f32) → arg0.IsWhole → (arg1 : Memref sig .tc .vmem S512x256 .f32) → arg1.IsWhole →
  (arg2 : Memref sig .tc .vmem S2x128x4x64 .f32) → arg2.IsWhole → (arg3 : Memref sig .tc .vmem S2x128x4x64 .f32) → arg3.IsWhole →
  (arg4 : Memref sig .tc .vmem S256x512 .f32) → arg4.IsWhole → (arg5 : Memref sig .tc .vmem S2x128x512 .f32) → arg5.IsWhole →
  (arg6 : Memref sig .tc .vmem S2x8x128x64 .bf16) → arg6.IsWhole → (arg7 : Memref sig .tc .vmem S31x2x8x128x64 .bf16) → arg7.IsWhole →
  (arg8 : Memref sig .tc .vmem S8x128x64 .f32) → arg8.IsWhole → (arg9 : Memref sig .tc .vmem S8x128 .f32) → arg9.IsWhole →
  DmaSems sig S31 → DmaSems sig S31 → β
/-- A part on the kernel's own buffers. -/
abbrev on {β : Type 1} (p : OnBufs β) : β :=
  p xM (Memref.isWhole_whole _) wqM (Memref.isWhole_whole _) kM (Memref.isWhole_whole _) vM (Memref.isWhole_whole _) woM (Memref.isWhole_whole _) oM (Memref.isWhole_whole _)
    kvM (Memref.isWhole_whole _) cM (Memref.isWhole_whole _) aM (Memref.isWhole_whole _) lM (Memref.isWhole_whole _) cc0_scratch4 cc0_scratch5

abbrev barA : Sems sig S_ := SemArray.scalar (sig.barrier 0 rfl)
abbrev sgeW (d : Dev nD) (n : ℕ) : BitVec 1 := Scalar.cmpi .sge (w2 d) (BitVec.ofNat 32 n)
abbrev le30 (d : Dev nD) : BitVec 1 := Scalar.cmpi .sle (w2 d) 30#32
abbrev ext (b : BitVec 1) : BitVec 32 := Scalar.extui b

variable (d : Dev nD) (q : FVec F S8x128x64 .bf16)

/-- A conditional step of one operation, then the rest `R`: the printed text names the rest in both branches. -/
theorem one_cons {α : Type} {c : Prop} [Decidable c] {A : c → BProg F PUnit} {R : BProg F α} {l : List (BProg F PUnit)} {p : BProg F α} (hR : R = seq l p) :
    dite c (fun h => A h >>= fun _ => R) (fun _ => R) = seq (dite c (fun h => A h >>= fun _ => pure ⟨⟩) (fun _ => pure ⟨⟩) :: l) p := by
  subst hR; by_cases h : c <;> simp only [h, dite_true, dite_false, seq, bind_assoc, pure_bind]

/-- An accumulating step, then the rest. -/
theorem acc_cons {α : Type} (h : Fin 31) {R : BProg F α} {l : List (BProg F PUnit)} {p : BProg F α} (hR : R = seq l p) :
    dite (geW d (h.val + 1) = 1#1) (fun _ => do
      let k : Vec F S1x1x8x128x64 .bf16 ← Prog.lift (.load cM (rC h 0).toLoadRect (View.loadsAt_vmem h_S1x1x8x128x64))
      let v : Vec F S1x1x8x128x64 .bf16 ← Prog.lift (.load cM (rC h 1).toLoadRect (View.loadsAt_vmem h_S1x1x8x128x64))
      let a : Vec F S8x128x64 .f32 ← Prog.lift (.load aM rA.toLoadRect (View.loadsAt_vmem h_S8x128x64))
      let _ : Vec F S8x128x64 .f32 ← Prog.lift (.load aM rA.toLoadRect (View.loadsAt_vmem h_S8x128x64))
      Prog.lift (.store aM rA (k0_pay12 q k v a) Finset.univ (View.stores_vmem_bits_univ h_S8x128x64 rfl) (.inl rfl))
      let s : Vec F S8x128 .f32 ← Prog.lift (.load lM rL.toLoadRect (View.loadsAt_vmem h_S8x128))
      let _ : Vec F S8x128 .f32 ← Prog.lift (.load lM rL.toLoadRect (View.loadsAt_vmem h_S8x128))
      Prog.lift (.store lM rL (k0_pay13 q k s) Finset.univ (View.stores_vmem_bits_univ h_S8x128 rfl) (.inl rfl))
      R) (fun _ => R) = seq (accStep d q h :: l) p := by
  subst hR; unfold accStep; by_cases hc : geW d (h.val + 1) = 1#1 <;> simp only [hc, dite_true, dite_false, seq, bind_assoc, pure_bind, ↓reduceDIte]

/-- A step without a condition, then the rest. -/
theorem own_cons {α : Type} {R : BProg F α} {l : List (BProg F PUnit)} {p : BProg F α} (hR : R = seq l p) : (ownStep q >>= fun _ => R) = seq (ownStep q :: l) p := by
  subst hR; rfl

theorem part1_eq : on (k0_part1 (F := F)) = (Prog.lift .deviceId >>= fun d =>
    seq [sigStep d 0, sigStep d 1, sigStep d 2, sigStep d 3, sigStep d 4, sigStep d 5, sigStep d 6, sigStep d 7] (pure ⟨d, w2 d, barA⟩)) := by
  rw [k0_part1_eq_skeleton]; refine congrArg (Prog.lift TpuEff.deviceId >>= ·) (funext fun d => ?_); refine one_cons ?_; refine one_cons ?_; refine one_cons ?_; refine one_cons ?_; refine one_cons ?_; refine one_cons ?_; refine one_cons ?_; refine one_cons ?_; rfl
theorem part2_eq : on (k0_part2 (F := F)) d (w2 d) barA =
    seq [sigStep d 8, sigStep d 9, sigStep d 10, sigStep d 11, sigStep d 12, sigStep d 13, sigStep d 14, sigStep d 15, sigStep d 16, sigStep d 17] (pure ⟨⟩) := by
  rw [k0_part2_eq_skeleton]; refine one_cons ?_; refine one_cons ?_; refine one_cons ?_; refine one_cons ?_; refine one_cons ?_; refine one_cons ?_; refine one_cons ?_; refine one_cons ?_; refine one_cons ?_; refine one_cons ?_; rfl
theorem part3_eq : on (k0_part3 (F := F)) d (w2 d) barA =
    seq [sigStep d 18, sigStep d 19, sigStep d 20, sigStep d 21, sigStep d 22, sigStep d 23, sigStep d 24, sigStep d 25, sigStep d 26, sigStep d 27] (pure ⟨⟩) := by
  rw [k0_part3_eq_skeleton]; refine one_cons ?_; refine one_cons ?_; refine one_cons ?_; refine one_cons ?_; refine one_cons ?_; refine one_cons ?_; refine one_cons ?_; refine one_cons ?_; refine one_cons ?_; refine one_cons ?_; rfl
theorem part4_eq : on (k0_part4 (F := F)) d (w2 d) barA =
    seq [sigStep d 28, sigStep d 29, sigStep d 30, sigStep d 31, barStep, kvStep] (pure ⟨ext (le30 d), 0#32⟩) := by
  rw [k0_part4_eq_skeleton]; refine one_cons ?_; refine one_cons ?_; refine one_cons ?_; refine one_cons ?_; rfl
theorem part5_eq : on (k0_part5 (F := F)) d (w2 d) (ext (le30 d)) 0#32 =
    seq [sendStep d] (do
      let x : Vec F S2x128x512 .f32 ← Prog.lift (.load xM rX.toLoadRect (View.loadsAt_vmem h_S2x128x512))
      let wq : Vec F S512x256 .f32 ← Prog.lift (.load wqM rWq.toLoadRect (View.loadsAt_vmem h_S512x256))
      pure ⟨k0_pay3 x wq, k0_pay4, iota .tc S128x128 32 [1] Gen.iota_S128x128_d1_w32, 64#32, k0_pay5, k0_pay6⟩) := by
  rw [k0_part5_eq_skeleton]; refine one_cons ?_; rfl
/-- Parts 6 and 7 share the own block's step: the first returns the row sums, the second stores them. -/
theorem part67_eq : (on (k0_part6 (F := F)) q k0_pay4 (iota .tc S128x128 32 [1] Gen.iota_S128x128_d1_w32) 64#32 k0_pay5 k0_pay6 >>= fun l => on (k0_part7 (F := F)) d (w2 d) q l) =
    seq [ownStep q, recvStep d 0, fwdStep d 0, accStep d q 0, recvStep d 1, fwdStep d 1, accStep d q 1, recvStep d 2] (pure ⟨ext (Scalar.andi (sgeW d 3) (le30 d)), 0#32⟩) := by
  rw [k0_part6_eq_skeleton, k0_part7_eq_skeleton]; refine own_cons q ?_; refine one_cons ?_; refine one_cons ?_; refine acc_cons d q 0 ?_; refine one_cons ?_; refine one_cons ?_; refine acc_cons d q 1 ?_; refine one_cons ?_; rfl
theorem part8_eq : on (k0_part8 (F := F)) d (w2 d) q (ext (Scalar.andi (sgeW d 3) (le30 d))) 0#32 =
    seq [fwdStep d 2, accStep d q 2, recvStep d 3, fwdStep d 3, accStep d q 3, recvStep d 4, fwdStep d 4, accStep d q 4, recvStep d 5] (pure ⟨sgeW d 6, le30 d⟩) := by
  rw [k0_part8_eq_skeleton]; refine one_cons ?_; refine acc_cons d q 2 ?_; refine one_cons ?_; refine one_cons ?_; refine acc_cons d q 3 ?_; refine one_cons ?_; refine one_cons ?_; refine acc_cons d q 4 ?_; refine one_cons ?_; rfl
theorem part9_eq : on (k0_part9 (F := F)) d (w2 d) q (sgeW d 6) (le30 d) =
    seq [fwdStep d 5, accStep d q 5, recvStep d 6, fwdStep d 6, accStep d q 6, recvStep d 7, fwdStep d 7, accStep d q 7, recvStep d 8] (pure 9#32) := by
  rw [k0_part9_eq_skeleton]; refine one_cons ?_; refine acc_cons d q 5 ?_; refine one_cons ?_; refine one_cons ?_; refine acc_cons d q 6 ?_; refine one_cons ?_; refine one_cons ?_; refine acc_cons d q 7 ?_; refine one_cons ?_; rfl
theorem part10_eq : on (k0_part10 (F := F)) d (w2 d) q 9#32 =
    seq [fwdStep d 8, accStep d q 8, recvStep d 9, fwdStep d 9, accStep d q 9, recvStep d 10, fwdStep d 10, accStep d q 10] (pure ⟨ext (sgeW d 12), 0#32⟩) := by
  rw [k0_part10_eq_skeleton]; refine one_cons ?_; refine acc_cons d q 8 ?_; refine one_cons ?_; refine one_cons ?_; refine acc_cons d q 9 ?_; refine one_cons ?_; refine one_cons ?_; refine acc_cons d q 10 ?_; rfl
theorem part11_eq : on (k0_part11 (F := F)) d (w2 d) q (ext (sgeW d 12)) 0#32 =
    seq [recvStep d 11, fwdStep d 11, accStep d q 11, recvStep d 12, fwdStep d 12, accStep d q 12, recvStep d 13, fwdStep d 13, accStep d q 13] (pure 15#32) := by
  rw [k0_part11_eq_skeleton]; refine one_cons ?_; refine one_cons ?_; refine acc_cons d q 11 ?_; refine one_cons ?_; refine one_cons ?_; refine acc_cons d q 12 ?_; refine one_cons ?_; refine one_cons ?_; refine acc_cons d q 13 ?_; rfl
theorem part12_eq : on (k0_part12 (F := F)) d (w2 d) q 15#32 =
    seq [recvStep d 14, fwdStep d 14, accStep d q 14, recvStep d 15, fwdStep d 15, accStep d q 15, recvStep d 16, fwdStep d 16] (pure ⟨ext (sgeW d 17), 0#32⟩) := by
  rw [k0_part12_eq_skeleton]; refine one_cons ?_; refine one_cons ?_; refine acc_cons d q 14 ?_; refine one_cons ?_; refine one_cons ?_; refine acc_cons d q 15 ?_; refine one_cons ?_; refine one_cons ?_; rfl
theorem part13_eq : on (k0_part13 (F := F)) d (w2 d) q (ext (sgeW d 17)) 0#32 =
    seq [accStep d q 16, recvStep d 17, fwdStep d 17, accStep d q 17, recvStep d 18, fwdStep d 18, accStep d q 18, recvStep d 19, fwdStep d 19] (pure 20#32) := by
  rw [k0_part13_eq_skeleton]; refine acc_cons d q 16 ?_; refine one_cons ?_; refine one_cons ?_; refine acc_cons d q 17 ?_; refine one_cons ?_; refine one_cons ?_; refine acc_cons d q 18 ?_; refine one_cons ?_; refine one_cons ?_; rfl
theorem part14_eq : on (k0_part14 (F := F)) d (w2 d) q 20#32 =
    seq [accStep d q 19, recvStep d 20, fwdStep d 20, accStep d q 20, recvStep d 21, fwdStep d 21, accStep d q 21, recvStep d 22] (pure ⟨ext (Scalar.andi (sgeW d 23) (le30 d)), 0#32⟩) := by
  rw [k0_part14_eq_skeleton]; refine acc_cons d q 19 ?_; refine one_cons ?_; refine one_cons ?_; refine acc_cons d q 20 ?_; refine one_cons ?_; refine one_cons ?_; refine acc_cons d q 21 ?_; refine one_cons ?_; rfl
theorem part15_eq : on (k0_part15 (F := F)) d (w2 d) q (ext (Scalar.andi (sgeW d 23) (le30 d))) 0#32 =
    seq [fwdStep d 22, accStep d q 22, recvStep d 23, fwdStep d 23, accStep d q 23, recvStep d 24, fwdStep d 24, accStep d q 24, recvStep d 25] (pure ⟨sgeW d 26, le30 d⟩) := by
  rw [k0_part15_eq_skeleton]; refine one_cons ?_; refine acc_cons d q 22 ?_; refine one_cons ?_; refine one_cons ?_; refine acc_cons d q 23 ?_; refine one_cons ?_; refine one_cons ?_; refine acc_cons d q 24 ?_; refine one_cons ?_; rfl
theorem part16_eq : on (k0_part16 (F := F)) d (w2 d) q (sgeW d 26) (le30 d) =
    seq [fwdStep d 25, accStep d q 25, recvStep d 26, fwdStep d 26, accStep d q 26, recvStep d 27, fwdStep d 27, accStep d q 27, recvStep d 28] (pure 29#32) := by
  rw [k0_part16_eq_skeleton]; refine one_cons ?_; refine acc_cons d q 25 ?_; refine one_cons ?_; refine one_cons ?_; refine acc_cons d q 26 ?_; refine one_cons ?_; refine one_cons ?_; refine acc_cons d q 27 ?_; refine one_cons ?_; rfl
/-- Parts 17 and 18 share the result's step. -/
theorem part1718_eq : (on (k0_part17 (F := F)) d (w2 d) q 29#32 >>= fun y => on (k0_part18 (F := F)) (w2 d) y) =
    seq [fwdStep d 28, accStep d q 28, recvStep d 29, fwdStep d 29, accStep d q 29, recvStep d 30, accStep d q 30] (seq [outStep,
      sentStep d 0, sentStep d 1, sentStep d 2, sentStep d 3, sentStep d 4] (pure ⟨sgeW d 5, 30#32⟩)) := by
  rw [k0_part17_eq_skeleton, k0_part18_eq_skeleton]
  have h17 : on (k0_part17_skel (F := F)) d (w2 d) q 29#32 = seq [fwdStep d 28, accStep d q 28, recvStep d 29, fwdStep d 29, accStep d q 29, recvStep d 30, accStep d q 30] (do
      let a : Vec F S8x128x64 .f32 ← Prog.lift (.load aM rA.toLoadRect (View.loadsAt_vmem h_S8x128x64))
      let l : Vec F S8x128 .f32 ← Prog.lift (.load lM rL.toLoadRect (View.loadsAt_vmem h_S8x128))
      pure (k0_pay104 a l)) := by
    refine one_cons ?_; refine acc_cons d q 28 ?_; refine one_cons ?_; refine one_cons ?_; refine acc_cons d q 29 ?_; refine one_cons ?_; refine acc_cons d q 30 ?_; rfl
  rw [h17, seq_bind]
  have h18 (y : FVec F S256x256 .f32) : on (k0_part18_skel (F := F)) (w2 d) y = (do
      let wo : Vec F S256x512 .f32 ← Prog.lift (.load woM rWo.toLoadRect (View.loadsAt_vmem h_S256x512))
      let _ : Vec F S2x128x512 .f32 ← Prog.lift (.load oM rX.toLoadRect (View.loadsAt_vmem h_S2x128x512))
      Prog.lift (.store oM rX (k0_pay105 y wo) Finset.univ (View.stores_vmem_bits_univ h_S2x128x512 rfl) (.inl rfl))
      seq [sentStep d 0, sentStep d 1, sentStep d 2, sentStep d 3, sentStep d 4] (pure ⟨sgeW d 5, 30#32⟩)) := by
    refine bind_congr fun wo => bind_congr fun _ => bind_congr fun _ => ?_
    refine one_cons ?_; refine one_cons ?_; refine one_cons ?_; refine one_cons ?_; refine one_cons ?_; rfl
  simp only [h18]; rfl
theorem part19_eq : on (k0_part19 (F := F)) (w2 d) (sgeW d 5) 30#32 =
    seq [sentStep d 5, sentStep d 6, sentStep d 7, sentStep d 8, sentStep d 9, sentStep d 10, sentStep d 11] (pure ⟨⟩) := by
  rw [k0_part19_eq_skeleton]; refine one_cons ?_; refine one_cons ?_; refine one_cons ?_; refine one_cons ?_; refine one_cons ?_; refine one_cons ?_; refine one_cons ?_; rfl
theorem part20_eq : on (k0_part20 (F := F)) (w2 d) =
    seq [sentStep d 12, sentStep d 13, sentStep d 14, sentStep d 15, sentStep d 16, sentStep d 17] (pure (ext (Scalar.andi (sgeW d 18) (le30 d)))) := by
  rw [k0_part20_eq_skeleton]; refine one_cons ?_; refine one_cons ?_; refine one_cons ?_; refine one_cons ?_; refine one_cons ?_; refine one_cons ?_; rfl
theorem part21_eq : on (k0_part21 (F := F)) (w2 d) (ext (Scalar.andi (sgeW d 18) (le30 d))) =
    seq [sentStep d 18, sentStep d 19, sentStep d 20, sentStep d 21, sentStep d 22, sentStep d 23, sentStep d 24] (pure ⟨sgeW d 25, 30#32⟩) := by
  rw [k0_part21_eq_skeleton]; refine one_cons ?_; refine one_cons ?_; refine one_cons ?_; refine one_cons ?_; refine one_cons ?_; refine one_cons ?_; refine one_cons ?_; rfl

/-- A part that is a list of steps returning `a`, then the rest. -/
theorem part_bind {α β : Type} {P : BProg F α} {l l' : List (BProg F PUnit)} {a : α} {k : α → BProg F β} {p : BProg F β}
    (hP : P = seq l (pure a)) (hk : k a = seq l' p) : P >>= k = seq (l ++ l') p := by
  rw [hP, seq_bind, pure_bind, hk, seq_append]
theorem part_bind2 {α β γ : Type} {P : BProg F γ} {Q : γ → BProg F α} {l l' : List (BProg F PUnit)} {a : α} {k : α → BProg F β} {p : BProg F β}
    (hP : (P >>= Q) = seq l (pure a)) (hk : k a = seq l' p) : (P >>= fun x => Q x >>= k) = seq (l ++ l') p := by
  rw [← bind_assoc]; exact part_bind hP hk
theorem part_then {α β γ δ : Type} {P : BProg F α} {X : BProg F γ} {W : BProg F δ} {a : γ → δ → α} {l : List (BProg F PUnit)} {k : α → BProg F β} {R : γ → δ → BProg F β}
    (hP : P = seq l (X >>= fun x => W >>= fun w => pure (a x w))) (hk : ∀ x w, k (a x w) = R x w) : P >>= k = seq (l ++ []) (X >>= fun x => W >>= fun w => R x w) := by
  rw [hP, seq_bind, List.append_nil]; simp only [bind_assoc, pure_bind, hk]

set_option maxHeartbeats 1000000 in
theorem part22_eq : on (k0_part22 (F := F)) = (Prog.lift .deviceId >>= fun d => seq ((List.finRange 32).map (sigStep d) ++ [barStep, kvStep, sendStep d]) do
    let x : Vec F S2x128x512 .f32 ← Prog.lift (.load xM rX.toLoadRect (View.loadsAt_vmem h_S2x128x512))
    let wq : Vec F S512x256 .f32 ← Prog.lift (.load wqM rWq.toLoadRect (View.loadsAt_vmem h_S512x256))
    seq (ownStep (k0_pay3 x wq) :: (List.finRange 31).flatMap (hop d (k0_pay3 x wq)) ++ outStep :: (List.finRange 29).map (fun h => sentStep d (h.castLE (by omega))))
      (pure ⟨w2 d, ext (Scalar.andi (sgeW d 29) (le30 d))⟩)) := by
  rw [k0_part22_eq_skeleton]
  refine Eq.trans (b := on (k0_part1 (F := F)) >>= _) rfl ?_
  rw [part1_eq, bind_assoc]
  refine bind_congr fun d => ?_
  refine Eq.trans (part_bind rfl (part_bind (part2_eq d) (part_bind (part3_eq d) (part_bind (part4_eq d) (part_then (part5_eq d) (fun x wq => part_bind2 (part67_eq d (k0_pay3 x wq)) (part_bind (part8_eq d (k0_pay3 x wq)) (part_bind (part9_eq d (k0_pay3 x wq)) (part_bind (part10_eq d (k0_pay3 x wq)) (part_bind (part11_eq d (k0_pay3 x wq)) (part_bind (part12_eq d (k0_pay3 x wq)) (part_bind (part13_eq d (k0_pay3 x wq)) (part_bind (part14_eq d (k0_pay3 x wq)) (part_bind (part15_eq d (k0_pay3 x wq)) (part_bind (part16_eq d (k0_pay3 x wq)) (part_bind2 ((part1718_eq d (k0_pay3 x wq)).trans (seq_append _ _ _)) (part_bind (part19_eq d) (part_bind (part20_eq d) (l' := [sentStep d 18, sentStep d 19, sentStep d 20, sentStep d 21, sentStep d 22, sentStep d 23, sentStep d 24] ++ [sentStep d 25, sentStep d 26, sentStep d 27, sentStep d 28]) (p := pure ⟨w2 d, ext (Scalar.andi (sgeW d 29) (le30 d))⟩) (by refine part_bind (part21_eq d) ?_; refine one_cons ?_; refine one_cons ?_; refine one_cons ?_; refine one_cons ?_; rfl))))))))))))))))))) ?_
  rfl

/-- The printed body reads the device's number and runs `body`. -/
theorem body_eq : on (cc0_body (F := F)) = (Prog.lift .deviceId >>= fun d => body d) := by
  rw [cc0_body_eq_skeleton]
  refine Eq.trans (b := on (k0_part22 (F := F)) >>= _) rfl ?_
  rw [part22_eq, bind_assoc]
  refine bind_congr fun d => ?_
  rw [seq_bind]
  simp only [bind_assoc]
  refine congrArg (seq _) (bind_congr fun x => bind_congr fun wq => ?_)
  refine (part_bind (l' := [sentStep d 29, sentStep d 30]) (p := pure ⟨⟩) rfl (by refine one_cons ?_; refine one_cons ?_; rfl)).trans ?_
  rfl

end Cert.Chain

end
-- ==== Proof.Run.lean ====
/-
# The run

What the windows hold, what each grid point needs and leaves, and the run of the whole program.
-/
module

public import proofs.«01_k».proof.Proof.Launch
public import proofs.«01_k».proof.Proof.BodyEq
public import proofs.«01_k».proof.Proof.Gen.KernelIdeal.Points
public import Idealize.ShloMosaic.Lib.Pipeline.CollectiveSegs

@[expose] public section

noncomputable section

namespace Cert.Chain

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What device `c` starts from besides its buffers. -/
def start (c : Dev nD) : sProp 𝕄 := iprop(G' m ρ c ∗ credits c ∗ levAts L lv)

def Φ₀ (c : Dev nD) : sProp 𝕄 := iprop(start m ρ c ∗ scratch c)
def Φ₁ (c : Dev nD) : sProp 𝕄 := iprop(sems c ∗ scratch c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xStg m ρ c
    | ⟨1, _⟩ => wqStg m ρ c
    | ⟨2, _⟩ => kStg m ρ c
    | ⟨3, _⟩ => vStg m ρ c
    | ⟨4, _⟩ => woStg m ρ c
    | ⟨5, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

omit [FloatOps F] in
theorem bigSep_W (Φ : Fin cfg0.W → sProp 𝕄) :
    bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ bufPts c b f) := by
  unfold owns bufPts; simp only [Memref.view_whole, View.read_whole, View.set_whole]

/-- A staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ bufPts c b f)

/-- The one grid point. -/
abbrev t₀ : Fin cfg0.N := ⟨0, by decide⟩

theorem before_x (c : Dev nD) (d) : (dats m ρ 0 c).before (0 : Fin 6) t₀ d = xStg m ρ c := by unfold Dat.before; rw [if_pos (fetch0_0 _)]; rfl
theorem before_wq (c : Dev nD) (d) : (dats m ρ 0 c).before (1 : Fin 6) t₀ d = wqStg m ρ c := by unfold Dat.before; rw [if_pos (fetch0_1 _)]; rfl
theorem before_k (c : Dev nD) (d) : (dats m ρ 0 c).before (2 : Fin 6) t₀ d = kStg m ρ c := by unfold Dat.before; rw [if_pos (fetch0_2 _)]; rfl
theorem before_v (c : Dev nD) (d) : (dats m ρ 0 c).before (3 : Fin 6) t₀ d = vStg m ρ c := by unfold Dat.before; rw [if_pos (fetch0_3 _)]; rfl
theorem before_wo (c : Dev nD) (d) : (dats m ρ 0 c).before (4 : Fin 6) t₀ d = woStg m ρ c := by unfold Dat.before; rw [if_pos (fetch0_4 _)]; rfl

def bodyPre (c : Dev nD) : sProp 𝕄 :=
  iprop(Φ₀ m ρ c ∗ (dats m ρ 0 c).owesAt () t₀.castSucc
    ∗ (∃ d, stg c cc0_stg0_0 ((dats m ρ 0 c).before (0 : Fin 6) t₀ d)) ∗ (∃ d, stg c cc0_stg1_0 ((dats m ρ 0 c).before (1 : Fin 6) t₀ d))
    ∗ (∃ d, stg c cc0_stg2_0 ((dats m ρ 0 c).before (2 : Fin 6) t₀ d)) ∗ (∃ d, stg c cc0_stg3_0 ((dats m ρ 0 c).before (3 : Fin 6) t₀ d))
    ∗ (∃ d, stg c cc0_stg4_0 ((dats m ρ 0 c).before (4 : Fin 6) t₀ d)) ∗ (∃ d, stg c cc0_stg5_0 ((dats m ρ 0 c).before (5 : Fin 6) t₀ d)))
def bodyPost (c : Dev nD) : sProp 𝕄 :=
  iprop(Φ₁ c ∗ (dats m ρ 0 c).owesAt () t₀.succ
    ∗ stg c cc0_stg0_0 (xStg m ρ c) ∗ stg c cc0_stg1_0 (wqStg m ρ c) ∗ stg c cc0_stg2_0 (kStg m ρ c) ∗ stg c cc0_stg3_0 (vStg m ρ c)
    ∗ stg c cc0_stg4_0 (woStg m ρ c) ∗ stg c cc0_stg5_0 (outAt m ρ c))

theorem owesAt_in (c : Dev nD) : (dats m ρ 0 c).owesAt () t₀.castSucc ⊢ (owesE c (O₀ c) : sProp 𝕄) := by
  unfold Dat.owesAt Pipeline.owesWithin owesE
  iintro ⟨%W, -, Ho⟩
  iexists W
  iexact Ho
theorem owesAt_out (c : Dev nD) : (owesE c 0 : sProp 𝕄) ⊢ (dats m ρ 0 c).owesAt () t₀.succ := by
  unfold Dat.owesAt Pipeline.owesWithin owesE
  iintro ⟨%W, Ho⟩
  iexists W
  isplitr; · ipureintro; exact fun _ _ => Or.inl trivial
  iexact Ho

/-- The inputs as the point finds them. -/
theorem inputs_in (c : Dev nD) :
    iprop((∃ d, stg c cc0_stg0_0 ((dats m ρ 0 c).before (0 : Fin 6) t₀ d)) ∗ (∃ d, stg c cc0_stg1_0 ((dats m ρ 0 c).before (1 : Fin 6) t₀ d))
      ∗ (∃ d, stg c cc0_stg2_0 ((dats m ρ 0 c).before (2 : Fin 6) t₀ d)) ∗ (∃ d, stg c cc0_stg3_0 ((dats m ρ 0 c).before (3 : Fin 6) t₀ d))
      ∗ (∃ d, stg c cc0_stg4_0 ((dats m ρ 0 c).before (4 : Fin 6) t₀ d))) ⊢ (inputs m ρ c : sProp 𝕄) := by
  simp only [before_x, before_wq, before_k, before_v, before_wo]
  unfold inputs stg
  iintro ⟨⟨%d0, %f0, %h0, H0⟩, ⟨%d1, %f1, %h1, H1⟩, ⟨%d2, %f2, %h2, H2⟩, ⟨%d3, %f3, %h3, H3⟩, ⟨%d4, %f4, %h4, H4⟩⟩
  subst h0; subst h1; subst h2; subst h3; subst h4
  isplitl [H0]; · iexact H0
  isplitl [H1]; · iexact H1
  isplitl [H2]; · iexact H2
  isplitl [H3]; · iexact H3
  iexact H4
theorem stg_intro (c : Dev nD) (b : Ref sig .tc) (X : b.ty.Contents (Elt F)) : (bufPts c b X : sProp 𝕄) ⊢ stg c b X := by
  unfold stg
  iintro H
  iexists X
  isplitr; · ipureintro; rfl
  iexact H

theorem body_wp (c : Dev nD) :
    bodyPre m ρ c ⊢ wp frame (wpE (defs₀ (F := F)) 𝒱₀ c none) Set.univ (on (cc0_body (F := F))) (fun _ => bodyPost m ρ c) := by
  rw [body_eq, Prog.lift, Prog.bind_op, wp_deviceId, Prog.bind_ret]
  unfold bodyPre Φ₀ start G'
  iintro ⟨⟨⟨⟨%K, Hrec, Hg⟩, Hcr, Hlev⟩, Hscr⟩, Ho, Hx, Hwq, Hk, Hv, Hwo, ⟨%d5, %f5, %h5, Hout⟩⟩
  iapply (sound_body m ρ K c fun _ => bodyPost m ρ c)
  isplitl [Hrec Hlev]
  · unfold ctx; isplitl [Hrec] <;> iassumption
  isplitl [Ho]; · iapply (owesAt_in m ρ c); iexact Ho
  isplitl [Hg]; · iexact Hg
  isplitl [Hcr]; · iexact Hcr
  isplitl [Hscr]; · iexact Hscr
  isplitl [Hx Hwq Hk Hv Hwo]
  · iapply (inputs_in m ρ c)
    isplitl [Hx]; · iexact Hx
    isplitl [Hwq]; · iexact Hwq
    isplitl [Hk]; · iexact Hk
    isplitl [Hv]; · iexact Hv
    iexact Hwo
  isplitl [Hout]; · iexists f5; iexact Hout
  unfold bodyPost Φ₁ inputs
  iintro ⟨Ho, Hs, Hscr, ⟨Hx, Hwq, Hk, Hv, Hwo⟩, Hout⟩
  isplitl [Hs Hscr]
  · isplitl [Hs] <;> iassumption
  isplitl [Ho]; · iapply (owesAt_out m ρ c); iexact Ho
  isplitl [Hx]; · iapply (stg_intro c cc0_stg0_0); iexact Hx
  isplitl [Hwq]; · iapply (stg_intro c cc0_stg1_0); iexact Hwq
  isplitl [Hk]; · iapply (stg_intro c cc0_stg2_0); iexact Hk
  isplitl [Hv]; · iapply (stg_intro c cc0_stg3_0); iexact Hv
  isplitl [Hwo]; · iapply (stg_intro c cc0_stg4_0); iexact Hwo
  iapply (stg_intro c cc0_stg5_0); iexact Hout

set_option maxRecDepth 4000 in
/-- What the grid point owes. -/
theorem body_obligation (c : Dev nD) : BodyObligation (dats (F := F) m ρ 0 c) (defs₀ (F := F)) 𝒱₀ () Set.univ := fun t => by
  rw [fin_N0 t, bigSep_W, bigSep_W]
  simp only [owns_whole_eq]
  exact body_wp m ρ c

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

omit [FloatOps F] in
theorem scopedRest_eq (c : Dev nD) : (Pipeline.scopedRest (Ix := Unit) (Name := ℕ) (U := UU) (Lvl := ℕ) (Val := Elt F) cfg0.spec c : sProp 𝕄) = scratch c := scopedRest0_eq c

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest_eq, ownSems0_eq, unscopedSems0_eq]
  unfold Φ₁ sems
  iintro ⟨⟨HB, HS, HR⟩, Hr⟩
  isplitl [HB]; · iexact HB
  isplitl [HS HR]
  · isplitl [HS]; · iexact HS
    iexact HR
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- The arrays when the run is over. -/
def finalA (c : Dev nD) (w : Fin cfg0.W) : Buf (Elt F) ((cfg0.win w).arr.view.loc (c : Thread nD τ)) := (dats m ρ 0 c).arrAt w cfg0.N
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values and from any memory with zero counters, every weakly fair execution of the 32 devices ends, with each array as computed and
    every counter zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_chain m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Chain

end
-- ==== Proof.Frames.lean ====
/-
# The frames and the arrays after the run
-/
module

public import proofs.«01_k».proof.Defs
public import proofs.«01_k».proof.Proof.Run
public import proofs.«01_k».proof.Proof.Gen.Kernel
public import proofs.«01_k».proof.Proof.Gen.ReferenceIdeal.Run
public import Idealize.ShloMosaic.Lib.Quiescent

@[expose] public section

noncomputable section

namespace Cert.Chain

open Cert.KernelIdeal Cert.KernelIdeal.Gen
open Idealize.ShloMosaic Idealize.ShloMosaic.TcCoe Idealize.SL.Sem
open Idealize.ShloMosaic.Pipeline (Dat Cfg Window)

variable {F : FTy → Type} [FloatOps F]

variable (m : (ℓ : Loc nD τ sig) → Buf (Elt F) ℓ) (ρ : Dev nD → PrngReg)

theorem final_in (c : Dev nD) (w : Fin cfg0.W) (h : (cfg0.win w).isOut = false) :
    finalA m ρ c w = (s₀ m ρ).mem ((cfg0.win w).arr.view.loc (c : Thread nD τ)) :=
  (dats (F := F) m ρ 0 c).arrAt_in w h _

/-- The block of a window without a grid is its array: each element at its own place. -/
theorem emb_blk_whole {s : Shape} {e : EltTy} {cs : CoreSpace} (arr : Memref sig .tc .hbm s e) (isOut sync : Bool)
    (stage : Memref sig .tc (.core cs) ⟨s.rank, s.size⟩ e) (sem : DmaSem sig) (harr : arr.IsWhole) (hstage : stage.IsWhole) (u : Fin 1) (j : s.Idx) :
    ((Window.whole arr isOut sync stage sem harr hstage).blk u).view.emb j = arr.view.emb j := by
  refine congrArg arr.view.emb (funext fun a => Fin.ext ?_)
  show 0 * s.size a + 1 * (j a).val = (j a).val
  omega

theorem read_blk_whole {s : Shape} {e : EltTy} {cs : CoreSpace} (arr : Memref sig .tc .hbm s e) (isOut sync : Bool)
    (stage : Memref sig .tc (.core cs) ⟨s.rank, s.size⟩ e) (sem : DmaSem sig) (harr : arr.IsWhole) (hstage : stage.IsWhole) (u : Fin 1)
    (f : arr.view.ref.ty.Contents (Elt F)) :
    ((Window.whole arr isOut sync stage sem harr hstage).blk u).view.read (Elt F) f = arr.view.read (Elt F) f := by
  funext j
  rw [View.read_apply]
  exact congrArg (fun i => cast _ (f i)) (emb_blk_whole arr isOut sync stage sem harr hstage u j)

/-- What the pipeline copies in is the argument. -/
theorem xStg_eq (c : Dev nD) : xStg m ρ c = m ((c.tc : Thread nD τ).loc main_arg0) := read_blk_whole (Memref.whole main_arg0) _ _ _ _ _ _ _ _
theorem wqStg_eq (c : Dev nD) : wqStg m ρ c = m ((c.tc : Thread nD τ).loc main_arg1) := read_blk_whole (Memref.whole main_arg1) _ _ _ _ _ _ _ _
theorem kStg_eq (c : Dev nD) : kStg m ρ c = m ((c.tc : Thread nD τ).loc main_arg2) := read_blk_whole (Memref.whole main_arg2) _ _ _ _ _ _ _ _
theorem vStg_eq (c : Dev nD) : vStg m ρ c = m ((c.tc : Thread nD τ).loc main_arg3) := read_blk_whole (Memref.whole main_arg3) _ _ _ _ _ _ _ _
theorem woStg_eq (c : Dev nD) : woStg m ρ c = m ((c.tc : Thread nD τ).loc main_arg4) := read_blk_whole (Memref.whole main_arg4) _ _ _ _ _ _ _ _

/-- The result array holds what the body left in its buffer. -/
theorem final_out (c : Dev nD) : finalA m ρ c (5 : Fin 6) = outAt m ρ c := by
  unfold finalA
  refine ((dats m ρ 0 c).arrAt_succ (5 : Fin 6) ⟨0, by decide⟩).trans ?_
  rw [if_pos (flush0_5 _)]
  have h (f : Buf (Elt F) ((c.tc : Thread nD τ).loc main_v1)) : (win0_5.blk (0 : Fin 1)).view.read (Elt F) f = f :=
    read_blk_whole (F := F) (Memref.whole main_v1) true false (stage0_5 0) (sem0_5 0) (Memref.isWhole_whole _) (hstage0_5 0) 0 f
  exact (h _).symm.trans (View.read_write_univ _ _)

/-- After the run: the result array, and the five arguments as they were. -/
theorem run_arrays : θ_run defs (onTc (τ := τ) (main (F := F))) ⟨m, fun _ => 0, ρ⟩ (fun r => (∀ c : Dev nD,
      r.2.mem ((c.tc : Thread nD τ).loc main_v1) = outAt m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c 5).trans (final_out m ρ c), (h.1 c 0).trans (final_in m ρ c 0 rfl), (h.1 c 1).trans (final_in m ρ c 1 rfl),
    (h.1 c 2).trans (final_in m ρ c 2 rfl), (h.1 c 3).trans (final_in m ρ c 3 rfl), (h.1 c 4).trans (final_in m ρ c 4 rfl)⟩, h.2⟩) (run_main m ρ)

theorem frame_ideal : Cert.quiescent_KernelIdeal := fun m ρ _ =>
  (θ_run Cert.KernelIdeal.defs _ _).mono (fun _ h => ⟨fun c => (h.1 c).2, h.2⟩) (run_arrays (F := Ideal) m ρ)
/-- The two programs have one text, so one body table. -/
theorem defs₀_eq : Cert.Kernel.defs₀ (F := F) = Cert.KernelIdeal.defs₀ (F := F) := by
  unfold Cert.Kernel.defs₀ Cert.KernelIdeal.defs₀
  refine congrArg Defs.onTc ?_
  funext l
  match l with
  | ⟨0, _⟩ => rfl
theorem defs_eq : Cert.Kernel.defs (F := F) = Cert.KernelIdeal.defs (F := F) :=
  congrArg (Pipeline.defs Cert.KernelIdeal.pcfgs) defs₀_eq

theorem frame_kernel : Cert.quiescent_Kernel := by
  intro m ρ _
  rw [defs_eq]
  exact (θ_run Cert.KernelIdeal.defs _ _).mono (fun _ h => ⟨fun c => (h.1 c).2, h.2⟩) (run_arrays (F := Bits) m ρ)
theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

end Cert.Chain

end
-- ==== Proof.Payloads.lean ====
/-
# What the kernel's stretches of vector operations compute, element by element
-/
module

public import proofs.«01_k».proof.Proof.Gen.KernelIdeal.Skeleton
public import Idealize.ShloMosaic.Lib.Pointwise
public import Idealize.ShloMosaic.Lib.ValueIdx

@[expose] public section

noncomputable section

namespace Cert.Chain

open Cert.KernelIdeal Cert.KernelIdeal.Gen
open Idealize.ShloMosaic

/-- The scale of the scores. -/
theorem ofBits_eighth : Ideal.ofBits .f32 0x3E000000#32 = ((1 / 8 : ℝ) : EReal) := by
  simp [Ideal.ofBits, Ideal.ieee, -EReal.coe_mul]; norm_num

/-- The kernel's rounded-down quotient of a row number by sixty-four is that quotient. -/
theorem quot_word (p : Fin 128) :
    Scalar.select
      (IntOp.andi
        (IntOp.cmpi CmpIPredicate.ne
          (IntOp.subi (BitVec.setWidth 32 (IntOp.cmpi CmpIPredicate.sgt (BitVec.ofNat 32 p.val) 0#32))
            (BitVec.setWidth 32 (IntOp.cmpi CmpIPredicate.slt (BitVec.ofNat 32 p.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 p.val) 64#32) 0#32))
      (IntOp.subi (IntOp.divsi ArithUnit.vector (BitVec.ofNat 32 p.val) 64#32) 1#32)
      (IntOp.divsi ArithUnit.vector (BitVec.ofNat 32 p.val) 64#32) = BitVec.ofNat 32 (p.val / 64) := by
  revert p; decide +kernel

/-- The comparison of two such quotients. -/
theorem quot_le (p t : Fin 128) :
    IntOp.cmpi CmpIPredicate.sle (BitVec.ofNat 32 (t.val / 64)) (BitVec.ofNat 32 (p.val / 64)) = BitVec.ofBool (decide (t.val / 64 ≤ p.val / 64)) := by
  have h : ∀ a b : Fin 2, IntOp.cmpi CmpIPredicate.sle (BitVec.ofNat 32 a.val) (BitVec.ofNat 32 b.val) = BitVec.ofBool (decide (a.val ≤ b.val)) := by decide
  exact h ⟨t.val / 64, by omega⟩ ⟨p.val / 64, by omega⟩

/-- The block of sixty-four rows that a query's row is in. -/
theorem pay4_at (p t : Fin 128) : k0_pay4 (ix2 p t) = BitVec.ofNat 32 (p.val / 64) := by
  pointwise [k0_pay4]
  exact quot_word p

/-- A device's own weights before they are normalised: the exponential of a score, or zero where the key's block of sixty-four
comes after the query's. -/
theorem own_at (q : FVec Ideal S8x128x64 .bf16) (k : FVec Ideal S1x8x128x64 .bf16) (g : Fin 8) (p t : Fin 128) :
    (k0_pay7 (F := Ideal) q k0_pay4 (iota .tc S128x128 32 [1] Gen.iota_S128x128_d1_w32) 64#32 k0_pay5 k0_pay6 k (ix3 g p t) : EReal)
      = if t.val / 64 ≤ p.val / 64 then Ideal.exp (∑ e : Fin 64, q (ix3 g p e) * k (ix4 (0 : Fin 1) g t e)) else 0 := by
  pointwise [k0_pay7, k0_pay5, k0_pay6, dot_S8x128x64_S8x128x64_S8x128x128_2_2_1_1_0_0, pay4_at]
  rw [quot_word, quot_le]
  by_cases h : t.val / 64 ≤ p.val / 64 <;> simp [h, Scalar.select]

theorem own_sum_at (q : FVec Ideal S8x128x64 .bf16) (k v : FVec Ideal S1x8x128x64 .bf16) (g : Fin 8) (p : Fin 128) (d : Fin 64) :
    (k0_pay8 (F := Ideal) q k0_pay4 (iota .tc S128x128 32 [1] Gen.iota_S128x128_d1_w32) 64#32 k0_pay5 k0_pay6 k v (ix3 g p d) : EReal)
      = ∑ t : Fin 128, (if t.val / 64 ≤ p.val / 64 then Ideal.exp (∑ e : Fin 64, q (ix3 g p e) * k (ix4 (0 : Fin 1) g t e)) else 0) * v (ix4 (0 : Fin 1) g t d) := by
  simp only [← own_at]
  pointwise [k0_pay8, dot_S8x128x128_S8x128x64_S8x128x64_2_1_1_2_0_0]

theorem own_norm_at (q : FVec Ideal S8x128x64 .bf16) (k : FVec Ideal S1x8x128x64 .bf16) (g : Fin 8) (p : Fin 128) :
    (k0_pay10 (F := Ideal) (k0_pay9 (F := Ideal) q k0_pay4 (iota .tc S128x128 32 [1] Gen.iota_S128x128_d1_w32) 64#32 k0_pay5 k0_pay6 k) (ix2 g p) : EReal)
      = ∑ t : Fin 128, (if t.val / 64 ≤ p.val / 64 then Ideal.exp (∑ e : Fin 64, q (ix3 g p e) * k (ix4 (0 : Fin 1) g t e)) else 0) := by
  simp only [← own_at]
  pointwise [k0_pay10, k0_pay9]

theorem pay1_at (k : FVec Ideal S2x128x4x64 .f32) (g : Fin 8) (t : Fin 128) (d : Fin 64) :
    (k0_pay1 (F := Ideal) k (ix4 (0 : Fin 1) g t d) : EReal) = k (ix4 (⟨g.val / 4, by omega⟩ : Fin 2) t (⟨g.val % 4, by omega⟩ : Fin 4) d) := by
  pointwise [k0_pay1]

theorem pay2_at (v : FVec Ideal S2x128x4x64 .f32) (g : Fin 8) (t : Fin 128) (d : Fin 64) :
    (k0_pay2 (F := Ideal) v (ix4 (0 : Fin 1) g t d) : EReal) = v (ix4 (⟨g.val / 4, by omega⟩ : Fin 2) t (⟨g.val % 4, by omega⟩ : Fin 4) d) := by
  pointwise [k0_pay2]

theorem pay3_at (x : FVec Ideal S2x128x512 .f32) (w : FVec Ideal S512x256 .f32) (g : Fin 8) (p : Fin 128) (d : Fin 64) :
    (k0_pay3 (F := Ideal) x w (ix3 g p d) : EReal) = (∑ t : Fin 512, x (ix3 (⟨g.val / 4, by omega⟩ : Fin 2) p t) * w (ix2 t (⟨(g.val % 4) * 64 + d.val, by omega⟩ : Fin 256))) * ((1 / 8 : ℝ) : EReal) := by
  pointwise [k0_pay3, dot_S256x512_S512x256_S256x256_1_0_0_1_n_n]
  refine congrArg₂ (· * ·) (Finset.sum_congr rfl fun t _ => ?_) ofBits_eighth
  rw [show (⟨(g.val / 4 * 128 + p.val) / 128, by omega⟩ : Fin 2) = ⟨g.val / 4, by omega⟩ from Fin.ext (by simp only []; omega)]

theorem pay11_at (q : FVec Ideal S8x128x64 .bf16) (k : FVec Ideal S1x1x8x128x64 .bf16) (g : Fin 8) (p t : Fin 128) :
    k0_pay11 q k (ix3 g p t) = Ideal.exp (∑ e : Fin 64, q (ix3 g p e) * k (ix5 (0 : Fin 1) (0 : Fin 1) g t e)) := by
  pointwise [k0_pay11, dot_S8x128x64_S8x128x64_S8x128x128_2_2_1_1_0_0]

theorem pay12_at (q : FVec Ideal S8x128x64 .bf16) (k v : FVec Ideal S1x1x8x128x64 .bf16) (a : FVec Ideal S8x128x64 .f32) (g : Fin 8) (p : Fin 128) (d : Fin 64) :
    k0_pay12 q k v a (ix3 g p d) = a (ix3 g p d) + ∑ t : Fin 128, k0_pay11 q k (ix3 g p t) * v (ix5 (0 : Fin 1) (0 : Fin 1) g t d) := by
  pointwise [k0_pay12, dot_S8x128x128_S8x128x64_S8x128x64_2_1_1_2_0_0]

theorem pay13_at (q : FVec Ideal S8x128x64 .bf16) (k : FVec Ideal S1x1x8x128x64 .bf16) (a : FVec Ideal S8x128 .f32) (g : Fin 8) (p : Fin 128) :
    k0_pay13 q k a (ix2 g p) = a (ix2 g p) + ∑ t : Fin 128, k0_pay11 q k (ix3 g p t) := by
  pointwise [k0_pay13]

theorem pay104_at (a : FVec Ideal S8x128x64 .f32) (l : FVec Ideal S8x128 .f32) (b : Fin 2) (p : Fin 128) (r : Fin 256) :
    (k0_pay104 (F := Ideal) a l (ix2 (⟨b.val * 128 + p.val, by omega⟩ : Fin 256) r) : EReal)
      = Ideal.div (a (ix3 (⟨b.val * 4 + r.val / 64, by omega⟩ : Fin 8) p (⟨r.val % 64, by omega⟩ : Fin 64))) (l (ix2 (⟨b.val * 4 + r.val / 64, by omega⟩ : Fin 8) p)) := by
  pointwise [k0_pay104]

theorem pay105_at (z : FVec Ideal S256x256 .f32) (w : FVec Ideal S256x512 .f32) (b : Fin 2) (p : Fin 128) (n : Fin 512) :
    k0_pay105 z w (ix3 b p n) = ∑ r : Fin 256, z (ix2 (⟨b.val * 128 + p.val, by omega⟩ : Fin 256) r) * w (ix2 r n) := by
  pointwise [k0_pay105, dot_S256x256_S256x512_S256x512_1_0_0_1_n_n]

end Cert.Chain

end
-- ==== Proof.Buffers.lean ====
/-
# What the buffers hold

The keys and values a device loads, at an index: its own from the buffer it sends, those of hop `h` from slot `h` of its landing buffer, which are the
own ones of device `c - 1 - h`.
-/
module

public import proofs.«01_k».proof.Proof.Frames
public import proofs.«01_k».proof.Proof.Payloads

@[expose] public section

noncomputable section

namespace Cert.Chain

open Cert.KernelIdeal Cert.KernelIdeal.Gen
open Idealize.ShloMosaic Idealize.ShloMosaic.TcCoe

variable {F : FTy → Type} [FloatOps F]
variable (m : (ℓ : Loc nD τ sig) → Buf (Elt F) ℓ) (ρ : Dev nD → PrngReg)

theorem vOwn_eq (c : Dev nD) : vOwn m ρ c = k0_pay2 (vStg m ρ c) := by
  show kvM.view.readAt (Elt F) rK1.toLoadRect (kvPut _ _ _) = _
  rw [View.readAt_rect]
  exact View.read_write_univ (v := kvM.access rK1) _ _

theorem kOwn_eq (c : Dev nD) : kOwn m ρ c = k0_pay1 (kStg m ρ c) := by
  show kvM.view.readAt (Elt F) rK0.toLoadRect (kvPut _ _ _) = _
  rw [View.readAt_rect]
  refine Eq.trans (View.read_congr (v := kvM.access rK0) fun i hi => ?_) (View.read_write_univ (v := kvM.access rK0) ((s₀ m ρ).mem ((c : Thread nD τ).loc cc0_scratch0)) _)
  refine View.write_of_not_mem _ _ _ fun hi' => ?_
  have h0 := (mem_half 0 Gen.inb_S2x8x128x64_S1x8x128x64_0_0_0_0 i).mp hi
  have h1 := (mem_half 1 Gen.inb_S2x8x128x64_S1x8x128x64_1_0_0_0 i).mp hi'
  exact absurd (h0.symm.trans h1) (by decide)

/-- A load from the whole landing buffer, or from the whole sent one, reads the entry at the offset. -/
theorem read_half (h : Fin 31) (s : Fin 2) (f : (cc0_scratch1 : Ref sig .tc).ty.Contents (Elt F)) (g : Fin 8) (t : Fin 128) (d : Fin 64) :
    cM.view.readAt (Elt F) (rC h s).toLoadRect f (ix5 (0 : Fin 1) (0 : Fin 1) g t d) = f (ix5 h s g t d) := by
  rw [View.readAt_rect, View.read_apply]
  refine congrArg f (funext fun a => Fin.ext ?_)
  show (rC h s).off a + 1 * (ix5 (0 : Fin 1) (0 : Fin 1) g t d a).val = _
  fin_cases a <;> simp [ix5]

theorem read_own (s : Fin 2) (hb) (f : (cc0_scratch0 : Ref sig .tc).ty.Contents (Elt F)) (g : Fin 8) (t : Fin 128) (d : Fin 64) :
    kvM.view.readAt (Elt F) (Rect.unit (s := S2x8x128x64) ![s.val, 0, 0, 0] S1x8x128x64.size hb).toLoadRect f (ix4 (0 : Fin 1) g t d) = f (ix4 s g t d) := by
  rw [View.readAt_rect, View.read_apply]
  refine congrArg f (funext fun a => Fin.ext ?_)
  show (Rect.unit (s := S2x8x128x64) ![s.val, 0, 0, 0] S1x8x128x64.size hb).off a + 1 * (ix4 (0 : Fin 1) g t d a).val = _
  fin_cases a <;> simp [ix4]

/-- What slot `h` holds is what its device sent. -/
theorem slot_at (c : Dev nD) (h : Fin 31) (s : Fin 2) (g : Fin 8) (t : Fin 128) (d : Fin 64) :
    commOf m ρ c (ix5 h s g t d) = kvT m ρ (src c h) (ix4 s g t d) := by
  refine Eq.trans ?_ (congrFun (read_commOf m ρ c h) (ix4 s g t d))
  have hc : S1x2x8x128x64.ShapeCasts S2x8x128x64 := by decide
  rw [Memref.read_squeeze_slice cM _ (fun _ => rfl) Gen.squeezes_S1x2x8x128x64_S2x8x128x64 hc]
  generalize hy : cM.view.readAt (Elt F) (Rect.unit (s := S31x2x8x128x64) ![h.val, 0, 0, 0, 0] S1x2x8x128x64.size (inbSlot h)).toLoadRect (commOf m ρ c) = y
  have e : shapeCast S2x8x128x64 y hc (ix4 s g t d) = y (ix5 (0 : Fin 1) s g t d) := by
    refine shapeCast_apply y hc (ix4 s g t d) (ix5 (0 : Fin 1) s g t d) ?_
    rw [Shape.rowMajor_val_four, Shape.rowMajor_val_five]
    show (((0 * 2 + s.val) * 8 + g.val) * 128 + t.val) * 64 + d.val = ((s.val * 8 + g.val) * 128 + t.val) * 64 + d.val
    omega
  rw [e, ← hy, View.readAt_rect, View.read_apply]
  refine congrArg (commOf m ρ c) (funext fun a => Fin.ext ?_)
  show _ = (Rect.unit (s := S31x2x8x128x64) ![h.val, 0, 0, 0, 0] S1x2x8x128x64.size (inbSlot h)).off a + 1 * (ix5 (0 : Fin 1) s g t d a).val
  fin_cases a <;> simp [ix5]

theorem kAt_at (c : Dev nD) (h : Fin 31) (g : Fin 8) (t : Fin 128) (d : Fin 64) :
    kAt m ρ c h (ix5 (0 : Fin 1) (0 : Fin 1) g t d) = k0_pay1 (kStg m ρ (src c h)) (ix4 (0 : Fin 1) g t d) := by
  refine (read_half h 0 _ g t d).trans ((slot_at m ρ c h 0 g t d).trans ?_)
  rw [← kOwn_eq]
  exact (read_own 0 Gen.inb_S2x8x128x64_S1x8x128x64_0_0_0_0 _ g t d).symm

theorem vAt_at (c : Dev nD) (h : Fin 31) (g : Fin 8) (t : Fin 128) (d : Fin 64) :
    vAt m ρ c h (ix5 (0 : Fin 1) (0 : Fin 1) g t d) = k0_pay2 (vStg m ρ (src c h)) (ix4 (0 : Fin 1) g t d) := by
  refine (read_half h 1 _ g t d).trans ((slot_at m ρ c h 1 g t d).trans ?_)
  rw [← vOwn_eq]
  exact (read_own 1 Gen.inb_S2x8x128x64_S1x8x128x64_1_0_0_0 _ g t d).symm

end Cert.Chain

end
-- ==== Proof.Softmax.lean ====
/-
# A softmax row, and a sum in the order of the chain

A softmax row whose scores are real, read in the extended reals. The reference subtracts the row's greatest score before the exponential and divides
every weight before it multiplies the values; the kernel subtracts nothing and divides once, after the sum. `softmax_row` equates the two. `sum_chain`
cuts a sum over a sequence into blocks and takes the blocks in the order a device of the chain meets them: its own first, then the ones before it,
nearest first.
-/
module

public import Idealize.ShloMosaic.Lib.IdealHost
public import Idealize.ShloMosaic.Lib.ValueIdx

@[expose] public section

noncomputable section

namespace Cert.Chain

open Idealize.ShloMosaic
open scoped BigOperators

/-! ## Sums in the extended reals -/

/-- A real factor that is not negative goes into a sum. -/
theorem sum_mul_real {n : ℕ} (f : Fin n → EReal) (r : ℝ) (hr : 0 ≤ r) : (∑ j, f j) * (r : EReal) = ∑ j, f j * (r : EReal) := by
  suffices H : ∀ S : Finset (Fin n), (∑ j ∈ S, f j) * (r : EReal) = ∑ j ∈ S, f j * (r : EReal) from H Finset.univ
  intro S
  induction S using Finset.cons_induction with
  | empty => simp
  | cons a S h ih =>
    rw [Finset.sum_cons, Finset.sum_cons, EReal.right_distrib_of_nonneg_of_ne_top (by exact_mod_cast hr) (EReal.coe_ne_top r), ih]

/-- A sum of reals is a real. -/
theorem coe_sum {n : ℕ} (f : Fin n → ℝ) : ((∑ j, f j : ℝ) : EReal) = ∑ j, (f j : EReal) := by
  suffices H : ∀ S : Finset (Fin n), ((∑ j ∈ S, f j : ℝ) : EReal) = ∑ j ∈ S, (f j : EReal) from H Finset.univ
  intro S
  induction S using Finset.cons_induction with
  | empty => simp
  | cons a S h ih => rw [Finset.sum_cons, Finset.sum_cons, EReal.coe_add, ih]

/-- The greatest of real scores, some of them masked, is real when one is not masked. -/
theorem max_real {n : ℕ} (s : Fin n → ℝ) (P : Fin n → Prop) [DecidablePred P] (j0 : Fin n) (h0 : P j0) :
    ∃ μ : ℝ, (Finset.univ : Finset (Fin n)).fold max (⊥ : EReal) (fun j => if P j then (s j : EReal) else ⊥) = μ := by
  have hlt : (Finset.univ : Finset (Fin n)).fold max (⊥ : EReal) (fun j => if P j then (s j : EReal) else ⊥) < ⊤ := by
    rw [Finset.fold_max_lt]
    refine ⟨bot_lt_top, fun j _ => ?_⟩
    split
    · exact EReal.coe_lt_top _
    · exact bot_lt_top
  have hgt : (⊥ : EReal) < (Finset.univ : Finset (Fin n)).fold max (⊥ : EReal) (fun j => if P j then (s j : EReal) else ⊥) := by
    rw [Finset.lt_fold_max]
    exact Or.inr ⟨j0, Finset.mem_univ _, by rw [if_pos h0]; exact EReal.bot_lt_coe _⟩
  exact ⟨_, (EReal.coe_toReal hlt.ne hgt.ne').symm⟩

/-- The softmax row of the reference is the one of the kernel. -/
theorem softmax_row {n : ℕ} (s : Fin n → ℝ) (P : Fin n → Prop) [DecidablePred P] (j0 : Fin n) (h0 : P j0) (V : Fin n → EReal) (M : EReal)
    (hM : M = (Finset.univ : Finset (Fin n)).fold max (⊥ : EReal) (fun j => if P j then (s j : EReal) else ⊥)) :
    ∑ j, V j * Ideal.div (Ideal.exp ((if P j then (s j : EReal) else ⊥) - M)) (∑ k, Ideal.exp ((if P k then (s k : EReal) else ⊥) - M))
      = Ideal.div (∑ j, (if P j then Ideal.exp (s j : EReal) else 0) * V j) (∑ j, if P j then Ideal.exp (s j : EReal) else 0) := by
  obtain ⟨μ, hμ⟩ := max_real s P j0 h0
  rw [hM, hμ]
  set ε : Fin n → ℝ := fun j => if P j then Real.exp (s j) else 0 with hε
  have hε0 : ∀ j, 0 ≤ ε j := fun j => by simp only [hε]; split; exacts [(Real.exp_pos _).le, le_rfl]
  have hL : 0 < ∑ j, ε j :=
    Finset.sum_pos' (fun j _ => hε0 j) ⟨j0, Finset.mem_univ _, by simp only [hε, if_pos h0]; exact Real.exp_pos _⟩
  have hw : ∀ j, Ideal.exp ((if P j then (s j : EReal) else ⊥) - (μ : EReal)) = ((ε j * Real.exp (-μ) : ℝ) : EReal) := fun j => by
    by_cases h : P j
    · rw [if_pos h, ← EReal.coe_sub, Ideal.exp_coe]
      simp only [hε, if_pos h]
      rw [← Real.exp_add, sub_eq_add_neg]
    · rw [if_neg h, EReal.bot_sub, Ideal.exp_bot]
      simp only [hε, if_neg h, zero_mul, EReal.coe_zero]
  have he : ∀ j, (if P j then Ideal.exp (s j : EReal) else 0) = (ε j : EReal) := fun j => by
    by_cases h : P j
    · simp only [hε, if_pos h, Ideal.exp_coe]
    · simp only [hε, if_neg h, EReal.coe_zero]
  simp only [hw, he]
  rw [← coe_sum, ← coe_sum, ← Finset.sum_mul]
  have hX : (0 : ℝ) < Real.exp (-μ) := Real.exp_pos _
  rw [Ideal.div_coe hL.ne', sum_mul_real _ _ (by positivity)]
  refine Finset.sum_congr rfl fun j _ => ?_
  rw [Ideal.div_coe (mul_pos hL hX).ne', ← EReal.coe_mul, mul_comm ((ε j : ℝ) : EReal) (V j), mul_assoc (V j), ← EReal.coe_mul]
  refine congrArg (fun r : ℝ => V j * (r : EReal)) ?_
  field_simp

/-! ## Blocks in the order of the chain -/

/-- A sum over the sequence, block by block. -/
theorem sum_blocks (f : Fin 4096 → EReal) : ∑ j, f j = ∑ k : Fin 32, ∑ t : Fin 128, f ⟨128 * k.val + t.val, by omega⟩ := by
  rw [← Finset.sum_product', ← Equiv.sum_comp (finProdFinEquiv (m := 32) (n := 128)) f, Finset.univ_product_univ]
  refine Finset.sum_congr rfl fun i _ => congrArg f (Fin.ext ?_)
  simp only [finProdFinEquiv_apply_val]
  omega

/-- With nothing after block `c`: block `c`, and the blocks before it from the nearest on. -/
theorem sum_chain {M : Type} [AddCommMonoid M] (B : ℕ → M) (c : ℕ) (hc : c < 32) (hB : ∀ k, c < k → B k = 0) :
    ∑ k : Fin 32, B k.val = B c + ∑ h : Fin 31, if h.val < c then B (c - 1 - h.val) else 0 := by
  rw [Fin.sum_univ_eq_sum_range (fun k => B k) 32, Fin.sum_univ_eq_sum_range (fun h => if h < c then B (c - 1 - h) else 0) 31]
  rw [← Finset.sum_subset (s₁ := Finset.range (c + 1)) (fun x hx => by simp only [Finset.mem_range] at *; omega)
    (fun x _ hx => hB x (by simp only [Finset.mem_range] at hx; omega)), Finset.sum_range_succ, add_comm]
  congr 1
  rw [← Finset.sum_subset (s₁ := Finset.range c) (s₂ := Finset.range 31) (fun x hx => by simp only [Finset.mem_range] at *; omega)
    (fun x _ hx => if_neg (by simpa only [Finset.mem_range] using hx)), ← Finset.sum_range_reflect]
  exact Finset.sum_congr rfl fun x hx => (if_pos (Finset.mem_range.mp hx)).symm

end Cert.Chain

end
-- ==== Proof.Spec.lean ====
/-
# What is computed

The attention of the whole sequence, over the extended reals: `qry` the queries, `scr` the scaled scores, `wgt` the weights — zero where the key's block
of sixty-four rows comes after the query's —, `den` and `num` the sums over the keys, and `res` the result after the output projection. Nothing is
subtracted from a score, and a row is divided once.
-/
module

public import Idealize.ShloMosaic.Lib.IdealHost
public import Idealize.ShloMosaic.Lib.Pointwise

@[expose] public section

noncomputable section

namespace Cert.Chain

open Idealize.ShloMosaic
open scoped BigOperators

variable (X : (⟨3, ![2, 4096, 512]⟩ : Shape).Idx → EReal) (Wq : (⟨2, ![512, 256]⟩ : Shape).Idx → EReal)
  (K V : (⟨4, ![2, 4096, 4, 64]⟩ : Shape).Idx → EReal) (Wo : (⟨2, ![256, 512]⟩ : Shape).Idx → EReal)

def qry (b : Fin 2) (i : Fin 4096) (r : Fin 256) : EReal := ∑ t : Fin 512, X (ix3 b i t) * Wq (ix2 t r)
def scr (b : Fin 2) (h : Fin 4) (i j : Fin 4096) : EReal :=
  ∑ d : Fin 64, (qry X Wq b i ⟨h.val * 64 + d.val, by omega⟩ * ((1 / 8 : ℝ) : EReal)) * K (ix4 b j h d)
def wgt (b : Fin 2) (h : Fin 4) (i j : Fin 4096) : EReal := if j.val / 64 ≤ i.val / 64 then Ideal.exp (scr X Wq K b h i j) else 0
def den (b : Fin 2) (h : Fin 4) (i : Fin 4096) : EReal := ∑ j : Fin 4096, wgt X Wq K b h i j
def num (b : Fin 2) (h : Fin 4) (i : Fin 4096) (d : Fin 64) : EReal := ∑ j : Fin 4096, wgt X Wq K b h i j * V (ix4 b j h d)
def res (b : Fin 2) (i : Fin 4096) (n : Fin 512) : EReal :=
  ∑ r : Fin 256, Ideal.div (num X Wq K V b ⟨r.val / 64, by omega⟩ i ⟨r.val % 64, by omega⟩) (den X Wq K b ⟨r.val / 64, by omega⟩ i) * Wo (ix2 r n)

end Cert.Chain

end
-- ==== Proof.KerValue.lean ====
/-
# What the kernel computes

The result of device `c` at an index is `res` at that row of the sequence, whatever the inputs hold: the queries and keys of the blocks are those of the
sequence, so a step of the chain adds one block of the two sums, and the steps together add all that are not zero.
-/
module

public import proofs.«01_k».proof.Proof.Buffers
public import proofs.«01_k».proof.Proof.Softmax
public import proofs.«01_k».proof.Proof.Spec

@[expose] public section

noncomputable section

namespace Cert.Chain

open Cert.KernelIdeal Cert.KernelIdeal.Gen
open Idealize.ShloMosaic Idealize.ShloMosaic.TcCoe
open scoped BigOperators

/-! ## Rows of the sequence -/

/-- Row `p` of device `c`'s block, in the sequence. -/
def row (c : Dev nD) (p : Fin 128) : Fin 4096 := ⟨128 * c.val + p.val, by have h : c.val < 32 := c.isLt; omega⟩

/-- A sum over the sequence whose terms after block `c` are zero, in the order of the chain. -/
theorem sum_seq (f : Fin 4096 → EReal) (c : Dev nD) (hf : ∀ j, 128 * (c.val + 1) ≤ j.val → f j = 0) :
    ∑ j, f j = ∑ t : Fin 128, f (row c t) + ∑ h : Fin 31, if actR c h then ∑ t : Fin 128, f (row (src c h) t) else 0 := by
  have hc : c.val < 32 := c.isLt
  let B : ℕ → EReal := fun k => if hk : k < 32 then ∑ t : Fin 128, f ⟨128 * k + t.val, by omega⟩ else 0
  have hB : ∀ k (hk : k < 32), B k = ∑ t : Fin 128, f ⟨128 * k + t.val, by omega⟩ := fun k hk => dif_pos hk
  have e : ∑ j, f j = ∑ k : Fin 32, B k.val := by
    rw [sum_blocks]
    exact Finset.sum_congr rfl fun k _ => (hB k.val k.isLt).symm
  rw [e, sum_chain B c.val hc fun k hk => ?_]
  · refine congrArg₂ (· + ·) (hB c.val hc) (Finset.sum_congr rfl fun h _ => ?_)
    by_cases ha : h.val < c.val
    · rw [if_pos ha, if_pos (show actR c h from ha)]
      exact hB _ (by omega)
    · rw [if_neg ha, if_neg (show ¬ actR c h from ha)]
  · by_cases hk' : k < 32
    · rw [hB k hk']
      exact Finset.sum_eq_zero fun t _ => hf _ (by show 128 * (c.val + 1) ≤ 128 * k + t.val; omega)
    · exact dif_neg hk'

variable (m : (ℓ : Loc nD τ sig) → Buf (Elt Ideal) ℓ) (ρ : Dev nD → PrngReg)

/-- The batch that the accumulators' first axis is at, and the head. -/
abbrev bat (g : Fin 8) : Fin 2 := ⟨g.val / 4, by omega⟩
abbrev hd (g : Fin 8) : Fin 4 := ⟨g.val % 4, by omega⟩

/-! ## The hops added up -/

theorem fold_sum (c : Dev nD) (q : FVec Ideal S8x128x64 .bf16) (g : Fin 8) (p : Fin 128) (d : Fin 64) (l : List (Fin 31)) (s : Acc Ideal) :
    ((l.foldl (fun s h => nextA m ρ c q h s) s).1 (ix3 g p d) : EReal)
      = s.1 (ix3 g p d) + (l.map fun h => if actR c h then ∑ t : Fin 128, (k0_pay11 q (kAt m ρ c h) (ix3 g p t) : EReal) * vAt m ρ c h (ix5 (0 : Fin 1) (0 : Fin 1) g t d) else 0).sum := by
  induction l generalizing s with
  | nil => simp
  | cons h l ih =>
    rw [List.foldl_cons, ih, List.map_cons, List.sum_cons, ← add_assoc]
    congr 1
    unfold nextA
    by_cases ha : actR c h
    · rw [if_pos ha, if_pos ha]; exact pay12_at _ _ _ _ g p d
    · rw [if_neg ha, if_neg ha, add_zero]

theorem fold_norm (c : Dev nD) (q : FVec Ideal S8x128x64 .bf16) (g : Fin 8) (p : Fin 128) (l : List (Fin 31)) (s : Acc Ideal) :
    ((l.foldl (fun s h => nextA m ρ c q h s) s).2 (ix2 g p) : EReal)
      = s.2 (ix2 g p) + (l.map fun h => if actR c h then ∑ t : Fin 128, (k0_pay11 q (kAt m ρ c h) (ix3 g p t) : EReal) else 0).sum := by
  induction l generalizing s with
  | nil => simp
  | cons h l ih =>
    rw [List.foldl_cons, ih, List.map_cons, List.sum_cons, ← add_assoc]
    congr 1
    unfold nextA
    by_cases ha : actR c h
    · rw [if_pos ha, if_pos ha]; exact pay13_at _ _ _ g p
    · rw [if_neg ha, if_neg ha, add_zero]

/-! ## The blocks of the sequence -/

variable (X : (⟨3, ![2, 4096, 512]⟩ : Shape).Idx → EReal) (Wq : (⟨2, ![512, 256]⟩ : Shape).Idx → EReal)
  (K V : (⟨4, ![2, 4096, 4, 64]⟩ : Shape).Idx → EReal) (Wo : (⟨2, ![256, 512]⟩ : Shape).Idx → EReal)

/-- The devices hold the blocks of `X`, `K` and `V`, and each the whole of `Wq` and `Wo`. -/
structure Holds : Prop where
  x : ∀ (c : Dev nD) (b : Fin 2) (p : Fin 128) (t : Fin 512), (m (c.tc.loc main_arg0) : S2x128x512.Idx → EReal) (ix3 b p t) = X (ix3 b (row c p) t)
  wq : ∀ (c : Dev nD), (m (c.tc.loc main_arg1) : S512x256.Idx → EReal) = Wq
  k : ∀ (c : Dev nD) (b : Fin 2) (t : Fin 128) (h : Fin 4) (d : Fin 64), (m (c.tc.loc main_arg2) : S2x128x4x64.Idx → EReal) (ix4 b t h d) = K (ix4 b (row c t) h d)
  v : ∀ (c : Dev nD) (b : Fin 2) (t : Fin 128) (h : Fin 4) (d : Fin 64), (m (c.tc.loc main_arg3) : S2x128x4x64.Idx → EReal) (ix4 b t h d) = V (ix4 b (row c t) h d)
  wo : ∀ (c : Dev nD), (m (c.tc.loc main_arg4) : S256x512.Idx → EReal) = Wo

variable {m X Wq K V Wo} (H : Holds m X Wq K V Wo)
include H

theorem q_at (c : Dev nD) (g : Fin 8) (p : Fin 128) (d : Fin 64) :
    (qOf m ρ c (ix3 g p d) : EReal) = qry X Wq (bat g) (row c p) ⟨g.val % 4 * 64 + d.val, by omega⟩ * ((1 / 8 : ℝ) : EReal) := by
  refine (pay3_at _ _ g p d).trans (congrArg (· * ((1 / 8 : ℝ) : EReal)) (Finset.sum_congr rfl fun t _ => ?_))
  rw [xStg_eq, wqStg_eq]
  exact congrArg₂ (· * ·) (H.x c _ p t) (congrFun (H.wq c) _)

theorem k_at (c : Dev nD) (g : Fin 8) (t : Fin 128) (d : Fin 64) :
    (k0_pay1 (F := Ideal) (kStg m ρ c) (ix4 (0 : Fin 1) g t d) : EReal) = K (ix4 (bat g) (row c t) (hd g) d) := by
  refine (pay1_at _ g t d).trans ?_
  rw [kStg_eq]; exact H.k c _ t _ d

theorem v_at (c : Dev nD) (g : Fin 8) (t : Fin 128) (d : Fin 64) :
    (k0_pay2 (F := Ideal) (vStg m ρ c) (ix4 (0 : Fin 1) g t d) : EReal) = V (ix4 (bat g) (row c t) (hd g) d) := by
  refine (pay2_at _ g t d).trans ?_
  rw [vStg_eq]; exact H.v c _ t _ d

/-- The scores of one block are those of the sequence. -/
theorem score_at (c c' : Dev nD) (g : Fin 8) (p t : Fin 128) :
    ∑ e : Fin 64, (qOf m ρ c (ix3 g p e) : EReal) * (k0_pay1 (F := Ideal) (kStg m ρ c') (ix4 (0 : Fin 1) g t e) : EReal)
      = scr X Wq K (bat g) (hd g) (row c p) (row c' t) :=
  Finset.sum_congr rfl fun e _ => by rw [q_at ρ H, k_at ρ H]

/-- A weight of the own block. -/
theorem wgt_own (c : Dev nD) (g : Fin 8) (p t : Fin 128) :
    (if t.val / 64 ≤ p.val / 64 then Ideal.exp (∑ e : Fin 64, (qOf m ρ c (ix3 g p e) : EReal) * (kOwn m ρ c (ix4 (0 : Fin 1) g t e) : EReal)) else 0)
      = wgt X Wq K (bat g) (hd g) (row c p) (row c t) := by
  rw [kOwn_eq, score_at ρ H]
  unfold wgt row
  refine if_congr ?_ rfl rfl
  simp only []
  omega

/-- A weight of a block that came. -/
theorem wgt_hop (c : Dev nD) (h : Fin 31) (ha : actR c h) (g : Fin 8) (p t : Fin 128) :
    (k0_pay11 (F := Ideal) (qOf m ρ c) (kAt m ρ c h) (ix3 g p t) : EReal) = wgt X Wq K (bat g) (hd g) (row c p) (row (src c h) t) := by
  refine (pay11_at _ _ g p t).trans ?_
  have e : ∀ d : Fin 64, (kAt m ρ c h (ix5 (0 : Fin 1) (0 : Fin 1) g t d) : EReal) = k0_pay1 (F := Ideal) (kStg m ρ (src c h)) (ix4 (0 : Fin 1) g t d) :=
    fun d => kAt_at m ρ c h g t d
  simp only [e]
  rw [score_at ρ H]
  refine (if_pos ?_).symm
  have ha' : h.val < c.val := ha
  show (128 * (c.val - 1 - h.val) + t.val) / 64 ≤ (128 * c.val + p.val) / 64
  omega

/-- No weight after the own block. -/
theorem wgt_after (c : Dev nD) (b : Fin 2) (h : Fin 4) (p : Fin 128) (j : Fin 4096) (hj : 128 * (c.val + 1) ≤ j.val) : wgt X Wq K b h (row c p) j = 0 := by
  refine if_neg ?_
  show ¬ j.val / 64 ≤ (128 * c.val + p.val) / 64
  omega

/-- The kernel's sum of weights is that of the whole sequence. -/
theorem norm_at (c : Dev nD) (g : Fin 8) (p : Fin 128) :
    ((accAt m ρ c (List.finRange 31)).2 (ix2 g p) : EReal) = den X Wq K (bat g) (hd g) (row c p) := by
  refine (fold_norm m ρ c _ g p _ _).trans ?_
  unfold den
  rw [sum_seq _ c (wgt_after H c _ _ p), ← Fin.sum_univ_def]
  refine congrArg₂ (· + ·) ((own_norm_at _ _ g p).trans (Finset.sum_congr rfl fun t _ => wgt_own ρ H c g p t)) (Finset.sum_congr rfl fun h _ => ?_)
  by_cases ha : actR c h
  · rw [if_pos ha, if_pos ha]
    exact Finset.sum_congr rfl fun t _ => wgt_hop ρ H c h ha g p t
  · rw [if_neg ha, if_neg ha]

/-- The kernel's weighted sum of values is that of the whole sequence. -/
theorem sum_at (c : Dev nD) (g : Fin 8) (p : Fin 128) (d : Fin 64) :
    ((accAt m ρ c (List.finRange 31)).1 (ix3 g p d) : EReal) = num X Wq K V (bat g) (hd g) (row c p) d := by
  refine (fold_sum m ρ c _ g p d _ _).trans ?_
  unfold num
  rw [sum_seq _ c (fun j hj => by rw [wgt_after H c _ _ p j hj, zero_mul]), ← Fin.sum_univ_def]
  refine congrArg₂ (· + ·) ((own_sum_at _ _ _ g p d).trans (Finset.sum_congr rfl fun t _ => congrArg₂ (· * ·) (wgt_own ρ H c g p t) ?_)) (Finset.sum_congr rfl fun h _ => ?_)
  · rw [vOwn_eq]; exact v_at ρ H c g t d
  by_cases ha : actR c h
  · rw [if_pos ha, if_pos ha]
    exact Finset.sum_congr rfl fun t _ => congrArg₂ (· * ·) (wgt_hop ρ H c h ha g p t) ((vAt_at m ρ c h g t d).trans (v_at ρ H (src c h) g t d))
  · rw [if_neg ha, if_neg ha]

/-- The kernel's result on device `c`. -/
theorem out_at (c : Dev nD) (b : Fin 2) (p : Fin 128) (n : Fin 512) : (outAt m ρ c (ix3 b p n) : EReal) = res X Wq K V Wo b (row c p) n := by
  refine (pay105_at _ _ b p n).trans (Finset.sum_congr rfl fun r _ => congrArg₂ (· * ·) ?_ ?_)
  · refine (pay104_at _ _ b p r).trans ?_
    rw [norm_at ρ H, sum_at ρ H]
    rw [show bat ⟨b.val * 4 + r.val / 64, by omega⟩ = b from Fin.ext (by show (b.val * 4 + r.val / 64) / 4 = b.val; omega),
      show hd ⟨b.val * 4 + r.val / 64, by omega⟩ = ⟨r.val / 64, by omega⟩ from Fin.ext (by show (b.val * 4 + r.val / 64) % 4 = r.val / 64; omega)]
  · rw [woStg_eq]; exact congrFun (H.wo c) _

end Cert.Chain

end
-- ==== Proof.RefStages.lean ====
/-
# What the reference computes, stage by stage

The stages of the reference at an index: the block mask, the scaled and masked scores, a row's greatest score, the weights and the result.
-/
module

public import proofs.«01_k».proof.Proof.Gen.ReferenceIdeal.Read
public import proofs.«01_k».proof.Proof.Spec
public import Idealize.ShloMosaic.Lib.Pointwise
public import Idealize.ShloMosaic.Lib.WordCmp
public import Idealize.ShloMosaic.Lib.ReduceAll

@[expose] public section

noncomputable section

namespace Cert.Chain

open Cert.ReferenceIdeal Cert.ReferenceIdeal.Gen Cert.ReferenceIdeal.Read
open Idealize.ShloMosaic
open scoped BigOperators

variable (X : (⟨S2x4096x512, .f32⟩ : BufTy).Contents (Elt Ideal)) (Wq : (⟨S512x256, .f32⟩ : BufTy).Contents (Elt Ideal))
  (K V : (⟨S2x4096x4x64, .f32⟩ : BufTy).Contents (Elt Ideal)) (Wo : (⟨S256x512, .f32⟩ : BufTy).Contents (Elt Ideal))

/-- The rounded-down quotient of a row number by sixty-four, as the host computes it. -/
theorem host_quot (i : Fin 4096) :
    Scalar.select
      (IntOp.andi
        (IntOp.cmpi CmpIPredicate.ne
          (if BitVec.ofNat 32 i.val = 0 then (0 : BitVec 32) else if (BitVec.ofNat 32 i.val).msb then -1 else 1)
          (if 64#32 = 0 then (0 : BitVec 32) else if (64#32).msb then -1 else 1))
        (IntOp.cmpi CmpIPredicate.ne (IntOp.remsi ArithUnit.host (BitVec.ofNat 32 i.val) 64#32) 0#32))
      (IntOp.subi (IntOp.divsi ArithUnit.host (BitVec.ofNat 32 i.val) 64#32) 1#32)
      (IntOp.divsi ArithUnit.host (BitVec.ofNat 32 i.val) 64#32) = BitVec.ofNat 32 (i.val / 64) := by
  have H : ∀ a b : Fin 64,
    Scalar.select
      (IntOp.andi
        (IntOp.cmpi CmpIPredicate.ne
          (if BitVec.ofNat 32 (64 * a.val + b.val) = 0 then (0 : BitVec 32) else if (BitVec.ofNat 32 (64 * a.val + b.val)).msb then -1 else 1)
          (if 64#32 = 0 then (0 : BitVec 32) else if (64#32).msb then -1 else 1))
        (IntOp.cmpi CmpIPredicate.ne (IntOp.remsi ArithUnit.host (BitVec.ofNat 32 (64 * a.val + b.val)) 64#32) 0#32))
      (IntOp.subi (IntOp.divsi ArithUnit.host (BitVec.ofNat 32 (64 * a.val + b.val)) 64#32) 1#32)
      (IntOp.divsi ArithUnit.host (BitVec.ofNat 32 (64 * a.val + b.val)) 64#32) = BitVec.ofNat 32 a.val := by decide +kernel
  have h := H ⟨i.val / 64, by omega⟩ ⟨i.val % 64, by omega⟩
  simp only [show 64 * (i.val / 64) + i.val % 64 = i.val from Nat.div_add_mod _ _] at h
  exact h

/-- The block of sixty-four rows that a query's row is in. -/
theorem ref_quot_q (i : Fin 4096) : val_main_v3 (F := Ideal) (ix1 i) = BitVec.ofNat 32 (i.val / 64) := by
  pointwise [val_main_v3, val_main_call0_v11, val_main_call0_v13, val_main_call0_v2, val_main_call0_v6, val_main_call0_v10, val_main_call0_v3, val_main_call0_v5, val_main_call0_v4, val_main_call0_v8, val_main_call0_v9, val_main_call0_v7, val_main_call0_v0, val_main_call0_v1, val_main_call0_v12, val_main_call0_c, val_main_call0_c_0, val_main_c, val_main_v2]
  exact host_quot i

/-- The block of sixty-four rows that a key's row is in. -/
theorem ref_quot_k (i : Fin 4096) : val_main_v6 (F := Ideal) (ix1 i) = BitVec.ofNat 32 (i.val / 64) := by
  pointwise [val_main_v6, val_main_call1_v11, val_main_call1_v13, val_main_call1_v2, val_main_call1_v6, val_main_call1_v10, val_main_call1_v3, val_main_call1_v5, val_main_call1_v4, val_main_call1_v8, val_main_call1_v9, val_main_call1_v7, val_main_call1_v0, val_main_call1_v1, val_main_call1_v12, val_main_call1_c, val_main_call1_c_0, val_main_c_0, val_main_v5]
  exact host_quot i

/-- A query sees a key when the key's block is not after the query's. -/
theorem ref_mask (i j : Fin 4096) : val_main_v10 (F := Ideal) (ix2 i j) = BitVec.ofBool (decide (j.val / 64 ≤ i.val / 64)) := by
  pointwise [val_main_v10, val_main_v8, val_main_v7, val_main_v9, val_main_v4, ref_quot_q, ref_quot_k]
  exact WordCmp.cmpi_sle_ofNat (by omega) (by omega)

/-- A disjunction with a true member is true. -/
theorem fold_or {n : ℕ} (f : Fin n → BitVec 1) (j : Fin n) (h : f j = 1#1) : (Finset.univ : Finset (Fin n)).fold IntOp.ori 0#1 f = 1#1 := by
  rw [← Finset.insert_erase (Finset.mem_univ j), Finset.fold_insert (Finset.notMem_erase j _), h]
  generalize ((Finset.univ : Finset (Fin n)).erase j).fold IntOp.ori 0#1 f = x
  revert x; decide

/-- Every query sees a key: itself. -/
theorem ref_keep (i : Fin 4096) : val_main_v21 (F := Ideal) (ix1 i) = 1#1 := by
  pointwise [val_main_v21, val_main_c_3]
  exact fold_or _ i (by rw [ref_mask, decide_eq_true (le_refl _)]; rfl)

theorem select_one {α : Type} (c : BitVec 1) (h : c = 1#1) (x y : α) : Scalar.select c x y = x := by rw [h]; rfl

theorem ofBits_neg_inf : Ideal.ofBits .f32 0xFF800000#32 = ⊥ := by simp [Ideal.ofBits, Ideal.ieee]

theorem ref_score (b : Fin 2) (h : Fin 4) (i j : Fin 4096) :
    (val_main_v13 (F := Ideal) X Wq K (ix4 b h i j) : EReal)
      = (∑ d : Fin 64, qry X Wq b i ⟨h.val * 64 + d.val, by omega⟩ * K (ix4 b j h d)) * Ideal.ofBits .f32 0x3E000000#32 := by
  pointwise [val_main_v13, val_main_v12, val_main_cst, val_main_v11, val_main_v1, val_main_v0, qry, dot_S2x4096x512_S512x256_S2x4096x256_2_0_01_1_n_n, dot_S2x4096x4x64_S2x4096x4x64_S2x4x4096x4096_3_3_1_1_02_02]

theorem ref_masked (b : Fin 2) (h : Fin 4) (i j : Fin 4096) :
    (val_main_v15 (F := Ideal) X Wq K (ix4 b h i j) : EReal)
      = if j.val / 64 ≤ i.val / 64 then (val_main_v13 (F := Ideal) X Wq K (ix4 b h i j) : EReal) else ⊥ := by
  pointwise [val_main_v15, val_main_call2_v1, val_main_call2_v2, val_main_call2_v0, val_main_cst_1, val_main_v14, ref_mask]
  refine ite_congr rfl (fun _ => rfl) fun _ => ofBits_neg_inf

theorem ref_max (b : Fin 2) (h : Fin 4) (i : Fin 4096) :
    (val_main_v16 (F := Ideal) X Wq K (ix3 b h i) : EReal)
      = (Finset.univ : Finset (Fin 4096)).fold max (⊥ : EReal) (fun j => val_main_v15 (F := Ideal) X Wq K (ix4 b h i j)) := by
  pointwise [val_main_v16, val_main_cst_2, ofBits_neg_inf]

theorem ref_exp (b : Fin 2) (h : Fin 4) (i j : Fin 4096) :
    (val_main_v20 (F := Ideal) X Wq K (ix4 b h i j) : EReal)
      = Ideal.exp ((val_main_v15 (F := Ideal) X Wq K (ix4 b h i j) : EReal) - (val_main_v16 (F := Ideal) X Wq K (ix3 b h i) : EReal)) := by
  pointwise [val_main_v20, val_main_v19, val_main_v18, val_main_v17]

theorem ref_sum (b : Fin 2) (h : Fin 4) (i : Fin 4096) :
    (val_main_v23 (F := Ideal) X Wq K (ix3 b h i) : EReal) = ∑ k : Fin 4096, (val_main_v20 (F := Ideal) X Wq K (ix4 b h i k) : EReal) := by
  pointwise [val_main_v23, val_main_cst_4]

theorem ref_den (b : Fin 2) (h : Fin 4) (i j : Fin 4096) :
    val_main_v26 (F := Ideal) X Wq K (ix4 b h i j) = val_main_v23 (F := Ideal) X Wq K (ix3 b h i) := by
  have k : val_main_call3_v1 (F := Ideal) (idx_main_v26 (ix4 b h i j)) = 1#1 := by
    rw [val_main_call3_v1_apply, val_main_v22_apply, show idx_main_v22 (idx_main_call3_v1 (idx_main_v26 (ix4 b h i j))) = ix1 i from eq_ix1 _, ref_keep]
  rw [val_main_v26_apply, val_main_v25_apply, select_one _ k, val_main_v24_apply]
  exact congrArg _ (eq_ix3 _)

theorem ref_weight (b : Fin 2) (h : Fin 4) (i j : Fin 4096) :
    (val_main_v29 (F := Ideal) X Wq K (ix4 b h i j) : EReal)
      = Ideal.div (val_main_v20 (F := Ideal) X Wq K (ix4 b h i j)) (∑ k : Fin 4096, (val_main_v20 (F := Ideal) X Wq K (ix4 b h i k) : EReal)) := by
  have k : val_main_call4_v1 (F := Ideal) (ix4 b h i j) = 1#1 := by
    rw [val_main_call4_v1_apply, val_main_v28_apply, show idx_main_v28 (idx_main_call4_v1 (ix4 b h i j)) = ix1 i from eq_ix1 _, ref_keep]
  rw [val_main_v29_apply, select_one _ k, val_main_v27_apply, ref_den, ← ref_sum]
  rfl

theorem ref_out (b : Fin 2) (i : Fin 4096) (n : Fin 512) :
    (val_main_v33 (F := Ideal) X Wq K V Wo (ix3 b i n) : EReal)
      = ∑ r : Fin 256, (∑ j : Fin 4096, V (ix4 b j (⟨r.val / 64, by omega⟩ : Fin 4) (⟨r.val % 64, by omega⟩ : Fin 64)) * (val_main_v29 (F := Ideal) X Wq K (ix4 b (⟨r.val / 64, by omega⟩ : Fin 4) i j) : EReal)) * Wo (ix2 r n) := by
  pointwise [val_main_v33, val_main_v32, val_main_v31, val_main_v30, dot_S2x4096x256_S256x512_S2x4096x512_2_0_01_1_n_n, dot_S2x4096x4x64_S2x4x4096x4096_S2x4x64x4096_1_3_3_2_02_01]

end Cert.Chain

end
-- ==== Proof.RefValue.lean ====
/-
# What the reference computes

The stages put together: where the scores are real numbers, the reference's result is `res`.
-/
module

public import proofs.«01_k».proof.Proof.RefStages
public import proofs.«01_k».proof.Proof.Softmax

@[expose] public section

noncomputable section

namespace Cert.Chain

open Cert.ReferenceIdeal Cert.ReferenceIdeal.Gen Cert.ReferenceIdeal.Read
open Idealize.ShloMosaic
open scoped BigOperators

variable (X : (⟨S2x4096x512, .f32⟩ : BufTy).Contents (Elt Ideal)) (Wq : (⟨S512x256, .f32⟩ : BufTy).Contents (Elt Ideal))
  (K V : (⟨S2x4096x4x64, .f32⟩ : BufTy).Contents (Elt Ideal)) (Wo : (⟨S256x512, .f32⟩ : BufTy).Contents (Elt Ideal))

/-- Every entry is a real number. -/
def Real' {s : Shape} (f : s.Idx → EReal) : Prop := ∀ i, ∃ r : ℝ, f i = r

theorem ofBits_scale : Ideal.ofBits .f32 0x3E000000#32 = ((1 / 8 : ℝ) : EReal) := by
  simp [Ideal.ofBits, Ideal.ieee, -EReal.coe_mul]; norm_num

theorem real_sum {n : ℕ} (f : Fin n → EReal) (h : ∀ j, ∃ r : ℝ, f j = r) : ∃ r : ℝ, ∑ j, f j = r := by
  choose g hg using h
  exact ⟨∑ j, g j, by rw [coe_sum]; exact Finset.sum_congr rfl fun j _ => hg j⟩

theorem real_mul {x y : EReal} (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩

/-- Real inputs have real scores. -/
theorem scr_real (hX : Real' X) (hWq : Real' Wq) (hK : Real' K) (b : Fin 2) (h : Fin 4) (i j : Fin 4096) : ∃ r : ℝ, scr X Wq K b h i j = r :=
  real_sum _ fun d => real_mul (real_mul (real_sum _ fun t => real_mul (hX _) (hWq _)) ⟨_, rfl⟩) (hK _)

/-- The reference scales a score, the kernel the query. -/
theorem ref_scr (b : Fin 2) (h : Fin 4) (i j : Fin 4096) : (val_main_v13 (F := Ideal) X Wq K (ix4 b h i j) : EReal) = scr X Wq K b h i j := by
  rw [ref_score, ofBits_scale, sum_mul_real _ _ (by norm_num)]
  exact Finset.sum_congr rfl fun d _ => by rw [mul_right_comm]

theorem ref_eq (hX : Real' X) (hWq : Real' Wq) (hK : Real' K) (b : Fin 2) (i : Fin 4096) (n : Fin 512) :
    (val_main_v33 (F := Ideal) X Wq K V Wo (ix3 b i n) : EReal) = res X Wq K V Wo b i n := by
  rw [ref_out]
  refine Finset.sum_congr rfl fun r _ => congrArg (· * Wo (ix2 r n)) ?_
  choose s hs using scr_real X Wq K hX hWq hK b ⟨r.val / 64, by omega⟩ i
  have hm : ∀ j : Fin 4096, (val_main_v15 (F := Ideal) X Wq K (ix4 b (⟨r.val / 64, by omega⟩ : Fin 4) i j) : EReal)
      = if j.val / 64 ≤ i.val / 64 then (s j : EReal) else ⊥ := fun j => by rw [ref_masked, ref_scr, hs]
  have H := softmax_row s (fun j : Fin 4096 => j.val / 64 ≤ i.val / 64) i le_rfl
    (fun j => V (ix4 b j (⟨r.val / 64, by omega⟩ : Fin 4) (⟨r.val % 64, by omega⟩ : Fin 64))) _ rfl
  refine Eq.trans (Finset.sum_congr rfl fun j _ => ?_) (H.trans ?_)
  · rw [ref_weight]
    simp only [ref_exp, ref_max, hm]
  · simp only [num, den, wgt, hs]

end Cert.Chain

end
-- ==== Proof.Finite.lean ====
/-
# What the precondition says

A device's blocks of the inputs and of the keys, and its copy of the query weights, hold real numbers: an entry whose absolute value is below infinity is
neither of the infinities. So the whole arrays hold real numbers too, each entry being one of some device's block.
-/
module

public import proofs.«01_k».proof.Proof.KerValue
public import proofs.«01_k».proof.Proof.RefValue
public import proofs.«01_k».proof.Proof.Gen.Pre_finite_scores_KernelIdeal
public import Idealize.ShloMosaic.Lib.ReduceAll

@[expose] public section

noncomputable section

namespace Cert.Chain

open Cert.KernelIdeal Cert.KernelIdeal.Gen
open Idealize.ShloMosaic Idealize.ShloMosaic.TcCoe

theorem ofBits_inf : Ideal.ofBits .f32 0x7F800000#32 = ⊤ := by simp [Ideal.ofBits, Ideal.ieee]

/-- An entry whose absolute value compares below infinity is a real number. -/
theorem real_of_abs_lt (x : EReal) (h : Ideal.cmp .olt (max x (-x)) (Ideal.ofBits .f32 0x7F800000#32) = 1#1) : ∃ r : ℝ, x = r := by
  rw [ofBits_inf] at h
  have hlt : max x (-x) < ⊤ := by
    by_contra hn
    simp [Ideal.cmp, hn] at h
  have h1 : x ≠ ⊤ := (lt_of_le_of_lt (le_max_left _ _) hlt).ne
  have h2 : x ≠ ⊥ := fun e => (lt_of_le_of_lt (le_max_right x (-x)) hlt).ne (by rw [e]; rfl)
  exact ⟨x.toReal, (EReal.coe_toReal h1 h2).symm⟩

/-- What the precondition says of one device's arguments. -/
theorem real_of_fn (a0 : FVec Ideal S2x128x512 .f32) (a1 : FVec Ideal S512x256 .f32) (a2 a3 : FVec Ideal S2x128x4x64 .f32) (a4 : FVec Ideal S256x512 .f32)
    (h : Cert.Pre_finite_scores_KernelIdeal.fn (F := Ideal) a0 a1 a2 a3 a4 = fun _ => 1#1) :
    Real' (s := S2x128x512) a0 ∧ Real' (s := S512x256) a1 ∧ Real' (s := S2x128x4x64) a2 := by
  have : Subsingleton Cert.Pre_finite_scores_KernelIdeal.S_.Idx := ⟨fun a b => funext fun i => i.elim0⟩
  obtain ⟨h8, h12⟩ := IntOp.andi_eq_one.1 (congrFun h (fun i => i.elim0))
  obtain ⟨h3, h7⟩ := IntOp.andi_eq_one.1 h8
  exact ⟨fun i => real_of_abs_lt _ (Host.reduce_andi_all _ _ _ _ _ h3 i), fun i => real_of_abs_lt _ (Host.reduce_andi_all _ _ _ _ _ h7 i),
    fun i => real_of_abs_lt _ (Host.reduce_andi_all _ _ _ _ _ h12 i)⟩

/-- Every row of the sequence is a row of some device's block. -/
theorem row_surj (j : Fin 4096) : ∃ (c : Dev nD) (p : Fin 128), row c p = j :=
  ⟨⟨j.val / 128, by show j.val / 128 < 32; omega⟩, ⟨j.val % 128, by omega⟩, Fin.ext (by show 128 * (j.val / 128) + j.val % 128 = j.val; omega)⟩

variable {m : (ℓ : Loc nD τ sig) → Buf (Elt Ideal) ℓ}
  {X : (⟨3, ![2, 4096, 512]⟩ : Shape).Idx → EReal} {Wq : (⟨2, ![512, 256]⟩ : Shape).Idx → EReal}
  {K V : (⟨4, ![2, 4096, 4, 64]⟩ : Shape).Idx → EReal} {Wo : (⟨2, ![256, 512]⟩ : Shape).Idx → EReal}

/-- Under the precondition the whole arrays that the scores are made of hold real numbers. -/
theorem real_arrays (H : Holds m X Wq K V Wo) (hpre : Cert.Pre_KernelIdeal_finite_scores_KernelIdeal m) : Real' X ∧ Real' Wq ∧ Real' K := by
  have hR := fun c => real_of_fn _ _ _ _ _ (hpre c)
  refine ⟨fun i => ?_, fun i => ?_, fun i => ?_⟩
  · obtain ⟨c, p, e⟩ := row_surj (i 1)
    obtain ⟨r, hr⟩ := (hR c).1 (ix3 (i 0) p (i 2))
    exact ⟨r, by rw [eq_ix3 i, ← hr]; exact ((H.x c (i 0) p (i 2)).trans (by rw [e])).symm⟩
  · obtain ⟨r, hr⟩ := (hR 0).2.1 i
    exact ⟨r, by rw [← hr]; exact (congrFun (H.wq 0) i).symm⟩
  · obtain ⟨c, p, e⟩ := row_surj (i 1)
    obtain ⟨r, hr⟩ := (hR c).2.2 (ix4 (i 0) p (i 2) (i 3))
    exact ⟨r, by rw [eq_ix4 i, ← hr]; exact ((H.k c (i 0) p (i 2) (i 3)).trans (by rw [e])).symm⟩

end Cert.Chain

end
-- ==== Proof.Value.lean ====
/-
# The equation

A device's blocks of the arguments are the rows of the sequence that are its own, and its block of the reference's result is what it leaves in its result.
-/
module

public import proofs.«01_k».proof.Proof.Finite
public import proofs.«01_k».proof.Proof.Frames
public import proofs.«01_k».proof.Proof.Gen.ReferenceIdeal.Read

@[expose] public section

noncomputable section

namespace Cert.Chain

open Cert.KernelIdeal Cert.KernelIdeal.Gen
open Idealize.ShloMosaic Idealize.ShloMosaic.TcCoe Idealize.SL.Sem

/-! ## The blocks of the arrays -/

theorem block3_at (c : Dev nD) (f : (⟨3, ![2, 4096, 512]⟩ : Shape).Idx → EReal) (b : Fin 2) (p : Fin 128) (t : Fin 512) :
    Layout.block ⟨3, ![2, 128, 512]⟩ ⟨3, ![2, 4096, 512]⟩ 1 32 c f (by decide) (ix3 b p t) = f (ix3 b (row c p) t) := by
  refine congrArg f (funext fun a => Fin.ext ?_)
  rw [Layout.Tiles.idx_val]
  match a with
  | ⟨0, _⟩ => rfl
  | ⟨1, _⟩ => show c.val * 128 + p.val = 128 * c.val + p.val; omega
  | ⟨2, _⟩ => rfl

theorem block4_at (c : Dev nD) (f : (⟨4, ![2, 4096, 4, 64]⟩ : Shape).Idx → EReal) (b : Fin 2) (t : Fin 128) (h : Fin 4) (d : Fin 64) :
    Layout.block ⟨4, ![2, 128, 4, 64]⟩ ⟨4, ![2, 4096, 4, 64]⟩ 1 32 c f (by decide) (ix4 b t h d) = f (ix4 b (row c t) h d) := by
  refine congrArg f (funext fun a => Fin.ext ?_)
  rw [Layout.Tiles.idx_val]
  match a with
  | ⟨0, _⟩ => rfl
  | ⟨1, _⟩ => show c.val * 128 + t.val = 128 * c.val + t.val; omega
  | ⟨2, _⟩ => rfl
  | ⟨3, _⟩ => rfl

/-! ## The claim -/

theorem algebraic : Cert.algebraic_KernelIdeal_ReferenceIdeal_pre_finite_scores_KernelIdeal := by
  intro m g m' g' hpre hblk
  have H : Holds m _ _ _ _ _ :=
    { x := fun c b p t => (congrFun (hblk c).1 _).trans (block3_at c _ b p t)
      wq := fun c => (hblk c).2.1
      k := fun c b t h d => (congrFun (hblk c).2.2.1 _).trans (block4_at c _ b t h d)
      v := fun c b t h d => (congrFun (hblk c).2.2.2.1 _).trans (block4_at c _ b t h d)
      wo := fun c => (hblk c).2.2.2.2 }
  obtain ⟨hX, hWq, hK⟩ := real_arrays H hpre
  refine ⟨Cert.ReferenceIdeal.Value.res_main_v33 m' 0, ?_, ?_⟩
  · refine (θ_run Cert.KernelIdeal.defs _ _).mono (fun r h c => ⟨(h.1 c).1.trans ?_, (h.1 c).2⟩) (run_arrays (F := Ideal) m g)
    rw [Cert.ReferenceIdeal.Read.val_main_v33_eq]
    funext i
    rw [eq_ix3 (n0 := 2) (n1 := 128) (n2 := 512) i]
    exact (out_at g H c _ _ _).trans ((ref_eq _ _ _ _ _ hX hWq hK _ _ _).symm.trans (block3_at c _ _ _ _).symm)
  · exact (θ_run Cert.ReferenceIdeal.defs _ _).mono (fun r h => h 0) (Cert.ReferenceIdeal.Value.run (F := Ideal) m' g')

end Cert.Chain

end
-- ==== Proof.lean ====
/-
# The claim

The frames are those of Frames.lean, the value claim is `algebraic` of Value.lean. The two programs of the kernel have one text, so that `preserves` says
nothing more.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_scores_KernelIdeal
public import proofs.«01_k».proof.Proof.Gen.Pre_finite_scores_ReferenceIdeal
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Pre_finite_scores_KernelIdeal.Gen.facts, Cert.Pre_finite_scores_ReferenceIdeal.Gen.facts,
  Cert.Chain.frame_kernel, Cert.Chain.frame_ideal, fun m ρ _ => Cert.Chain.frame_ideal m ρ trivial,
  Cert.Chain.frame_reference, fun m ρ _ => Cert.Chain.frame_reference m ρ trivial, trivial, Cert.Chain.algebraic⟩

end Cert.Proof

end
